-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x128 : Shape := ⟨2, ![100000, 128]⟩
abbrev S100000 : Shape := ⟨1, ![100000]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S100000x128 .f32) (main_arg1 : IVec S100000 32) (main_arg2 : FVec F S1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x128 .f32 := Host.absf main_arg0
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  main_v10
-- ==== Pre_in_range.lean ====
abbrev S100000x128 : Shape := ⟨2, ![100000, 128]⟩
abbrev S100000 : Shape := ⟨1, ![100000]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S1 : Shape := ⟨1, ![1]⟩
abbrev S50x1x2000 : Shape := ⟨3, ![50, 1, 2000]⟩
abbrev S8x512 : Shape := ⟨2, ![8, 512]⟩
abbrev S2000x128 : Shape := ⟨2, ![2000, 128]⟩
abbrev S1x1x2000 : Shape := ⟨3, ![1, 1, 2000]⟩
abbrev S512x256 : Shape := ⟨2, ![512, 256]⟩
abbrev S512x8 : Shape := ⟨2, ![512, 8]⟩
abbrev S2000 : Shape := ⟨1, ![2000]⟩
abbrev S512x2000 : Shape := ⟨2, ![512, 2000]⟩
abbrev S1x2000 : Shape := ⟨2, ![1, 2000]⟩
abbrev S2000x256 : Shape := ⟨2, ![2000, 256]⟩
abbrev S2000x8 : Shape := ⟨2, ![2000, 8]⟩
abbrev S512x128 : Shape := ⟨2, ![512, 128]⟩
abbrev S512 : Shape := ⟨1, ![512]⟩
abbrev S512x1 : Shape := ⟨2, ![512, 1]⟩
abbrev S4096 : Shape := ⟨1, ![4096]⟩
abbrev S1024 : Shape := ⟨1, ![1024]⟩
abbrev S3280 : Shape := ⟨1, ![3280]⟩
abbrev S_ : Shape := ⟨0, ![]⟩
abbrev S3120 : Shape := ⟨1, ![3120]⟩
abbrev S16 : Shape := ⟨1, ![16]⟩
abbrev S160 : Shape := ⟨1, ![160]⟩
abbrev S2x2000 : Shape := ⟨2, ![2, 2000]⟩
abbrev S2000x2 : Shape := ⟨2, ![2000, 2]⟩
abbrev S2000x1 : Shape := ⟨2, ![2000, 1]⟩

abbrev nBuf : Table → Nat
  | .hbm => 12
  | .local .tc .vmem => 15
  | .local .tc .smem => 2
  | .local .scVector .vmem => 4
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S1, .f32⟩
  | .hbm, ⟨3, _⟩ => ⟨S1, .f32⟩
  | .hbm, ⟨4, _⟩ => ⟨S50x1x2000, .i32⟩
  | .hbm, ⟨5, _⟩ => ⟨S8x512, .f32⟩
  | .hbm, ⟨6, _⟩ => ⟨S4096, .f32⟩
  | .hbm, ⟨7, _⟩ => ⟨S100000, .f32⟩
  | .hbm, ⟨8, _⟩ => ⟨S100000, .f32⟩
  | .hbm, ⟨9, _⟩ => ⟨S50x1x2000, .f32⟩
  | .hbm, ⟨10, _⟩ => ⟨S50x1x2000, .f32⟩
  | .hbm, ⟨11, _⟩ => ⟨S100000x128, .f32⟩
  | .local .tc .vmem, ⟨0, _⟩ => ⟨S2000x128, .f32⟩
  | .local .tc .vmem, ⟨1, _⟩ => ⟨S2000x128, .f32⟩
  | .local .tc .vmem, ⟨2, _⟩ => ⟨S1x1x2000, .i32⟩
  | .local .tc .vmem, ⟨3, _⟩ => ⟨S1x1x2000, .i32⟩
  | .local .tc .vmem, ⟨4, _⟩ => ⟨S8x512, .f32⟩
  | .local .tc .vmem, ⟨5, _⟩ => ⟨S512x256, .f32⟩
  | .local .tc .vmem, ⟨6, _⟩ => ⟨S512x8, .f32⟩
  | .local .tc .vmem, ⟨7, _⟩ => ⟨S2000x128, .f32⟩
  | .local .tc .vmem, ⟨8, _⟩ => ⟨S2000x128, .f32⟩
  | .local .tc .vmem, ⟨9, _⟩ => ⟨S1x1x2000, .f32⟩
  | .local .tc .vmem, ⟨10, _⟩ => ⟨S1x1x2000, .f32⟩
  | .local .tc .vmem, ⟨11, _⟩ => ⟨S1x1x2000, .f32⟩
  | .local .tc .vmem, ⟨12, _⟩ => ⟨S1x1x2000, .f32⟩
  | .local .tc .vmem, ⟨13, _⟩ => ⟨S2000x128, .f32⟩
  | .local .tc .vmem, ⟨14, _⟩ => ⟨S2000x128, .f32⟩
  | .local .tc .smem, ⟨0, _⟩ => ⟨S1, .f32⟩
  | .local .tc .smem, ⟨1, _⟩ => ⟨S1, .f32⟩
  | .local .scVector .vmem, ⟨0, _⟩ => ⟨S1024, .f32⟩
  | .local .scVector .vmem, ⟨1, _⟩ => ⟨S3280, .i32⟩
  | .local .scVector .vmem, ⟨2, _⟩ => ⟨S3280, .f32⟩
  | .local .scVector .vmem, ⟨3, _⟩ => ⟨S3280, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v2_scv : Ref sig .scVector := ⟨.hbm, 6, rfl⟩
abbrev main_arg1_scv : Ref sig .scVector := ⟨.hbm, 1, rfl⟩
abbrev main_v3_0_scv : Ref sig .scVector := ⟨.hbm, 7, rfl⟩
abbrev main_v3_1_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg5_0 : Ref sig .tc := ⟨.vmem, 13, rfl⟩
abbrev cc2_stg5_1 : Ref sig .tc := ⟨.vmem, 14, rfl⟩
abbrev cc2_stg3_0 : Ref sig .tc := ⟨.smem, 0, rfl⟩
abbrev cc2_stg4_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond3 (i : grid0.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3120_i32 : BitVec 32 := 3120#32
  let v2 : BitVec 32 := Scalar.muli v1 c3120_i32
  ![v2.toNat]
@[reducible] def k1_t1_loop : Scf.Loop 32 :=
  let c0_i32_0 : BitVec 32 := 0#32
  let c195_i32 : BitVec 32 := 195#32
  let v3 : BitVec 32 := Scalar.addi c0_i32_0 c195_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32_3 : BitVec 32 := 16#32
  let v7 : BitVec 32 := Scalar.muli arg10 c16_i32_3
  let v8 : Index := Scalar.indexCast v7
  ![v8.toNat]

def k1_chk1 (v9 : IVec S16 32) : Prop :=
  (∀ a x, ((![v9] : Fin 1 → IVec S16 32) a x).toNat < S1024.size a)
theorem k1_idx1_inb : ∀ (v9 : IVec S16 32) (k1_hw1 : k1_chk1 v9), ∀ a x, ((![v9] : Fin 1 → IVec S16 32) a x).toNat < S1024.size a := fun v9 k1_hw1 => k1_hw1
def k1_off3 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32_3 : BitVec 32 := 16#32
  let v7 : BitVec 32 := Scalar.muli arg10 c16_i32_3
  let v11 : Index := Scalar.indexCast v7
  ![v11.toNat]

def k1_chk2 (v14 : IVec S16 32) : Prop :=
  (∀ a x, ((![v14] : Fin 1 → IVec S16 32) a x).toNat < S1024.size a)
theorem k1_idx2_inb : ∀ (v14 : IVec S16 32) (k1_hw2 : k1_chk2 v14), ∀ a x, ((![v14] : Fin 1 → IVec S16 32) a x).toNat < S1024.size a := fun v14 k1_hw2 => k1_hw2
def k1_off4 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32_3 : BitVec 32 := 16#32
  let v7 : BitVec 32 := Scalar.muli arg10 c16_i32_3
  let v16 : Index := Scalar.indexCast v7
  ![v16.toNat]
def k1_cond1 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v4 : BitVec 1 := Scalar.cmpi .eq v1 c31_i32
  let v5 : BitVec 32 := Scalar.extui v4
  let c0_i32_2 : BitVec 32 := 0#32
  let v6 : BitVec 1 := Scalar.cmpi .ne v5 c0_i32_2
  v6

@[reducible] def k1_t2_loop : Scf.Loop 32 :=
  let c0_i32_4 : BitVec 32 := 0#32
  let c10_i32 : BitVec 32 := 10#32
  let v7 : BitVec 32 := Scalar.addi c0_i32_4 c10_i32
  let c1_i32_5 : BitVec 32 := 1#32
  ⟨c0_i32_4, v7, c1_i32_5⟩
def k1_off5 (k1_t2 : Fin k1_t2_loop.trips) : Fin 1 → Nat :=
  let c3120_i32_8 : BitVec 32 := 3120#32
  let c0_i32_4 : BitVec 32 := 0#32
  let c1_i32_5 : BitVec 32 := 1#32
  let arg10 : BitVec 32 := Scf.iv c0_i32_4 c1_i32_5 k1_t2
  let c16_i32_7 : BitVec 32 := 16#32
  let v8 : BitVec 32 := Scalar.muli arg10 c16_i32_7
  let v9 : BitVec 32 := Scalar.addi c3120_i32_8 v8
  let v10 : Index := Scalar.indexCast v9
  ![v10.toNat]

def k1_chk3 (i : grid1.Coords) (v11 : IVec S16 32) : Prop :=
  (∀ (k1_h1 : k1_cond1 i = 1#1), ∀ a x, ((![v11] : Fin 1 → IVec S16 32) a x).toNat < S1024.size a)
theorem k1_idx3_inb : ∀ (i : grid1.Coords) (v11 : IVec S16 32) (k1_hw3 : k1_chk3 i v11), ∀ (k1_h1 : k1_cond1 i = 1#1), ∀ a x, ((![v11] : Fin 1 → IVec S16 32) a x).toNat < S1024.size a := fun i v11 k1_hw3 k1_h1 => k1_hw3 k1_h1
def k1_off6 (k1_t2 : Fin k1_t2_loop.trips) : Fin 1 → Nat :=
  let c3120_i32_8 : BitVec 32 := 3120#32
  let c0_i32_4 : BitVec 32 := 0#32
  let c1_i32_5 : BitVec 32 := 1#32
  let arg10 : BitVec 32 := Scf.iv c0_i32_4 c1_i32_5 k1_t2
  let c16_i32_7 : BitVec 32 := 16#32
  let v8 : BitVec 32 := Scalar.muli arg10 c16_i32_7
  let v9 : BitVec 32 := Scalar.addi c3120_i32_8 v8
  let v13 : Index := Scalar.indexCast v9
  ![v13.toNat]

def k1_chk4 (i : grid1.Coords) (v16 : IVec S16 32) : Prop :=
  (∀ (k1_h1 : k1_cond1 i = 1#1), ∀ a x, ((![v16] : Fin 1 → IVec S16 32) a x).toNat < S1024.size a)
theorem k1_idx4_inb : ∀ (i : grid1.Coords) (v16 : IVec S16 32) (k1_hw4 : k1_chk4 i v16), ∀ (k1_h1 : k1_cond1 i = 1#1), ∀ a x, ((![v16] : Fin 1 → IVec S16 32) a x).toNat < S1024.size a := fun i v16 k1_hw4 k1_h1 => k1_hw4 k1_h1
def k1_off7 (k1_t2 : Fin k1_t2_loop.trips) : Fin 1 → Nat :=
  let c3120_i32_8 : BitVec 32 := 3120#32
  let c0_i32_4 : BitVec 32 := 0#32
  let c1_i32_5 : BitVec 32 := 1#32
  let arg10 : BitVec 32 := Scf.iv c0_i32_4 c1_i32_5 k1_t2
  let c16_i32_7 : BitVec 32 := 16#32
  let v8 : BitVec 32 := Scalar.muli arg10 c16_i32_7
  let v9 : BitVec 32 := Scalar.addi c3120_i32_8 v8
  let v18 : Index := Scalar.indexCast v9
  ![v18.toNat]
abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .smem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S1 : Shape := ⟨1, ![1]⟩
abbrev S_ : Shape := ⟨0, ![]⟩
abbrev S512 : Shape := ⟨1, ![512]⟩
abbrev S100000x1 : Shape := ⟨2, ![100000, 1]⟩
abbrev S512x1 : Shape := ⟨2, ![512, 1]⟩
abbrev S512x128 : Shape := ⟨2, ![512, 128]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S_, .i32⟩
  | .hbm, ⟨19, _⟩ => ⟨S100000, .i32⟩
  | .hbm, ⟨20, _⟩ => ⟨S512, .i32⟩
  | .hbm, ⟨21, _⟩ => ⟨S512, .f32⟩
  | .hbm, ⟨22, _⟩ => ⟨S_, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x1, .f32⟩
  | .hbm, ⟨30, _⟩ => ⟨S_, .f32⟩
  | .hbm, ⟨31, _⟩ => ⟨S512x128, .f32⟩
  | .hbm, ⟨32, _⟩ => ⟨S100000x1, .i32⟩
  | .hbm, ⟨33, _⟩ => ⟨S512x128, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x1, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S512x128, .f32⟩
  | .hbm, ⟨52, _⟩ => ⟨S100000x1, .i32⟩
  | .hbm, ⟨53, _⟩ => ⟨S512x128, .f32⟩
  | .hbm, ⟨54, _⟩ => ⟨S_, .f32⟩
  | .hbm, ⟨55, _⟩ => ⟨S512, .f32⟩
  | .hbm, ⟨56, _⟩ => ⟨S512x1, .f32⟩
  | .hbm, ⟨57, _⟩ => ⟨S512x1, .f32⟩
  | .hbm, ⟨58, _⟩ => ⟨S_, .f32⟩
  | .hbm, ⟨59, _⟩ => ⟨S512x1, .f32⟩
  | .hbm, ⟨60, _⟩ => ⟨S512x1, .f32⟩
  | .hbm, ⟨61, _⟩ => ⟨S512x1, .f32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x1, .f32⟩
  | .hbm, ⟨74, _⟩ => ⟨S100000x128, .f32⟩
  | .hbm, ⟨75, _⟩ => ⟨S100000x128, .f32⟩
  | .hbm, ⟨76, _⟩ => ⟨S1x1, .f32⟩
  | .hbm, ⟨77, _⟩ => ⟨S100000x128, .f32⟩
  | .hbm, ⟨78, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_c_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.Setup.lean ====
/-
  What the launch of the kernel is stated over: the SparseCore call as the launch theorem sees it, the resource
  algebra (the handshakes' rounds, the two pipelines' rounds, the local copies' counters), the arrays the gather
  reads and writes, the rows each vector subcore owns, and what the gather leaves there.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pipeline.RegionArrays
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels under the SparseCore launch: the kernels' and the pipelines'. -/
abbrev ΛP : Labels := Pipeline.Sig Λ₀ (Fin 2) fun p => (pcfgs (F := F) p).Adm
/-- The SparseCore calls. -/
abbrev K : SparseCore.Cfg τ sig (ΛP (F := F)) 1 := sc (F := F)
/-- The body table under the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and live outside every scope; no buffer of a SparseCore is a task's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' rounds beside the local copies' counters. -/
abbrev UK : Type := UR sig nD τ × Counters
abbrev UU : Type := UH × UK

local notation "𝕄" => MT nD τ sig (HIx 1) (Elt F) ℕ UU ℕ

abbrev EH : Emb UH (MT nD τ sig (HIx 1) (Elt F) ℕ UU ℕ) := embL
/-- The pipelines' rounds, inside the right factor. -/
def EP : Emb (UR sig nD τ) (MT nD τ sig (HIx 1) (Elt F) ℕ UU ℕ) := (Emb.inl : Emb (UR sig nD τ) UK).trans embR

instance EP_landsIn : (EP : Emb (UR sig nD τ) (MT nD τ sig (HIx 1) (Elt F) ℕ UU ℕ)).LandsIn
    (upEmb : UEmb _ (MT nD τ sig (HIx 1) (Elt F) ℕ UU ℕ)) := by
  unfold EP embR; infer_instance

/-! ## The arrays of the gather, the rows of each task -/

/-- The table as a vector of 4096 entries (row 0 the means, row 1 the reciprocal deviations). -/
abbrev tbLoc (d : Dev nD) : Loc nD τ sig := (SparseCore.T d).loc main_v2
/-- The segment ids. -/
abbrev idLoc (d : Dev nD) : Loc nD τ sig := (SparseCore.T d).loc main_arg1
/-- The gathered means. -/
abbrev muLoc (d : Dev nD) : Loc nD τ sig := (SparseCore.T d).loc main_v3_0
/-- The gathered reciprocal deviations. -/
abbrev rsLoc (d : Dev nD) : Loc nD τ sig := (SparseCore.T d).loc main_v3_1

/-- The flat number of the task that writes entry `j`: blocks of 3120 entries in order, the last 160 with the last task. -/
def taskOf (j : S100000.Idx) : ℕ := min ((j 0).val / 3120) 31

/-- The entries task `n` writes. -/
def rows (n : ℕ) : Finset S100000.Idx := Finset.univ.filter fun j => taskOf j = n

theorem mem_rows {n : ℕ} {j : S100000.Idx} : j ∈ rows n ↔ taskOf j = n := by simp [rows]

/-- Entry `k` of the flat table. -/
def tbIx (k : ℕ) : S4096.Idx := fun a => ⟨k % 4096, by
  obtain rfl : a = 0 := Subsingleton.elim (α := Fin 1) a 0
  exact Nat.mod_lt _ (by decide)⟩

/-- What the gather leaves in the means: entry `j` is the table's entry at `j`'s segment. -/
def gMu {d : Dev nD} (tb : Buf (Elt F) (tbLoc d)) (id : Buf (Elt F) (idLoc d)) : S100000.Idx → Elt F .f32 :=
  fun j => (tb : S4096.Idx → Elt F .f32) (tbIx ((id : S100000.Idx → BitVec 32) j).toNat)
/-- And in the reciprocal deviations: the entry 512 later. -/
def gRs {d : Dev nD} (tb : Buf (Elt F) (tbLoc d)) (id : Buf (Elt F) (idLoc d)) : S100000.Idx → Elt F .f32 :=
  fun j => (tb : S4096.Idx → Elt F .f32) (tbIx (((id : S100000.Idx → BitVec 32) j).toNat + 512))

/-- The share of a read-only array that task `n` of 32 is handed. -/
abbrev tok (n : Fin 32) : PosShare TreeShare := Transfers.shareTok fullShare 32 n

/-- Task `i` of SparseCore `c`, numbered flat. -/
def flat (c i : ℕ) (hc : c < 2) (hi : i < 16) : Fin 32 := ⟨16 * c + i, by omega⟩

/-- What task `n` is handed: a share of the table and of the segment ids, its rows of the two results. -/
def goAt (d : Dev nD) (tb : Buf (Elt F) (tbLoc d)) (id : Buf (Elt F) (idLoc d)) (n : Fin 32) : sProp 𝕄 :=
  iprop((tbLoc d ↦{tok n} tb) ∗ (idLoc d ↦{tok n} id) ∗ (∃ f : Buf (Elt F) (muLoc d), muLoc d ↦[rows n.val]{fullShare} f)
    ∗ ∃ f : Buf (Elt F) (rsLoc d), rsLoc d ↦[rows n.val]{fullShare} f)

/-- What it hands back: the shares, and its rows gathered. -/
def tdAt (d : Dev nD) (tb : Buf (Elt F) (tbLoc d)) (id : Buf (Elt F) (idLoc d)) (n : Fin 32) : sProp 𝕄 :=
  iprop((tbLoc d ↦{tok n} tb) ∗ (idLoc d ↦{tok n} id) ∗ (muLoc d ↦[rows n.val]{fullShare} (gMu tb id : Buf (Elt F) (muLoc d)))
    ∗ rsLoc d ↦[rows n.val]{fullShare} (gRs tb id : Buf (Elt F) (rsLoc d)))

instance goAt_storable (d : Dev nD) (tb : Buf (Elt F) (tbLoc d)) (id : Buf (Elt F) (idLoc d)) (n : Fin 32) :
    BI.Storable (upEmb : UEmb _ 𝕄) (goAt d tb id n) := by unfold goAt; infer_instance
instance tdAt_storable (d : Dev nD) (tb : Buf (Elt F) (tbLoc d)) (id : Buf (Elt F) (idLoc d)) (n : Fin 32) :
    BI.Storable (upEmb : UEmb _ 𝕄) (tdAt d tb id n) := by unfold tdAt; infer_instance

variable [FloatOps F]

/-- The call's payloads: a SparseCore is handed what its tasks are, and hands back what they do. -/
def P (tb : (d : Dev nD) → Buf (Elt F) (tbLoc d)) (id : (d : Dev nD) → Buf (Elt F) (idLoc d)) :
    (K (F := F)).Pay (nD := nD) (Val := Elt F) (Name := ℕ) (U := UU) where
  st := fun _ d c => bigSep Finset.univ fun i : Fin 16 => goAt d (tb d) (id d) (flat (c.val % 2) i.val (Nat.mod_lt _ (by decide)) i.isLt)
  dn := fun _ d c => bigSep Finset.univ fun i : Fin 16 => tdAt d (tb d) (id d) (flat (c.val % 2) i.val (Nat.mod_lt _ (by decide)) i.isLt)
  go := fun _ d c i => goAt d (tb d) (id d) (flat (c.val % 2) (i.val % 16) (Nat.mod_lt _ (by decide)) (Nat.mod_lt _ (by decide)))
  td := fun _ d c i => tdAt d (tb d) (id d) (flat (c.val % 2) (i.val % 16) (Nat.mod_lt _ (by decide)) (Nat.mod_lt _ (by decide)))
  x := fun _ _ => iprop(emp)

instance P_storable (tb : (d : Dev nD) → Buf (Elt F) (tbLoc d)) (id : (d : Dev nD) → Buf (Elt F) (idLoc d)) : (P (F := F) tb id).IsStorable where
  st _ d c := by unfold P; infer_instance
  dn _ d c := by unfold P; infer_instance
  go _ _ _ _ := by unfold P; infer_instance
  td _ _ _ _ := by unfold P; infer_instance

/-- A SparseCore's operands are its tasks', and its results theirs. -/
theorem vecSplit (tb : (d : Dev nD) → Buf (Elt F) (tbLoc d)) (id : (d : Dev nD) → Buf (Elt F) (idLoc d)) :
    (K (F := F)).VecSplit' (P tb id) 0 := by
  intro d c
  have e : ∀ i : Fin 16, i.val % 16 = i.val := fun i => Nat.mod_eq_of_lt i.isLt
  show (bigSep Finset.univ fun i : Fin 16 => goAt d (tb d) (id d) (flat (c.val % 2) i.val _ i.isLt)) ⊢ |={Set.univ}=> iprop(
      (bigSep Finset.univ fun i : Fin 16 => goAt d (tb d) (id d) (flat (c.val % 2) (i.val % 16) _ _))
      ∗ ((bigSep Finset.univ fun i : Fin 16 => tdAt d (tb d) (id d) (flat (c.val % 2) (i.val % 16) _ _))
          -∗ (bigSep Finset.univ fun i : Fin 16 => tdAt d (tb d) (id d) (flat (c.val % 2) i.val _ i.isLt))))
  simp only [e]
  iintro H; imodintro
  isplitl [H]; · iexact H
  iintro H; iexact H

end Cert.Proof.Seg

end
-- ==== Proof.Trip.lean ====
/-
  One trip of the gather's loops: sixteen segment ids are loaded from the task's scratch, the table's entries at them
  (and 512 later) are gathered and stored beside. Stated once over a first entry `o`: both loops of the body are it.
-/
module

public import proofs.«01_k».proof.Proof.Setup
public import Idealize.ShloMosaic.Lib.SparseCore.Ops
public import Idealize.ShloMosaic.Lib.Writes

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and scratches as a task addresses them -/

abbrev tbV : Memref sig .scVector .hbm S4096 .f32 := Memref.whole main_v2_scv
abbrev idV : Memref sig .scVector .hbm S100000 .i32 := Memref.whole main_arg1_scv
abbrev muV : Memref sig .scVector .hbm S100000 .f32 := Memref.whole main_v3_0_scv
abbrev rsV : Memref sig .scVector .hbm S100000 .f32 := Memref.whole main_v3_1_scv
/-- The task's copy of the table's first two rows. -/
abbrev sT : Memref sig .scVector .vmem S1024 .f32 := Memref.whole cc1_scratch0
/-- The task's segment ids. -/
abbrev sI : Memref sig .scVector .vmem S3280 .i32 := Memref.whole cc1_scratch1
/-- The means it gathered. -/
abbrev sM : Memref sig .scVector .vmem S3280 .f32 := Memref.whole cc1_scratch2
/-- The reciprocal deviations it gathered. -/
abbrev sR : Memref sig .scVector .vmem S3280 .f32 := Memref.whole cc1_scratch3

abbrev cV (L : grid1.Coords) : Fin τ.nSC := (L 0).castLE hcore1
abbrev jV (L : grid1.Coords) : Fin τ.nSub := (L 1).castLE hsub1
/-- The task's thread. -/
abbrev vthr (d : Dev nD) (L : grid1.Coords) : Thread nD τ := V d (cV L) (jV L)

/-! ## What a run of trips has filled -/

/-- Entry `k` of the task's table. -/
def scIx (k : ℕ) : S1024.Idx := fun a => ⟨k % 1024, by
  obtain rfl : a = 0 := Subsingleton.elim (α := Fin 1) a 0
  exact Nat.mod_lt _ (by decide)⟩

/-- Entries `lo … lo + n` of `f` are the table's at the ids there, `off` later. -/
def Filled (t : S1024.Idx → Elt F .f32) (iv : S3280.Idx → BitVec 32) (off lo n : ℕ) (f : S3280.Idx → Elt F .f32) : Prop :=
  ∀ j : S3280.Idx, lo ≤ (j 0).val → (j 0).val < lo + n → f j = t (scIx ((iv j).toNat + off))

/-- The ids `lo … lo + n` name segments. -/
def Ranged (iv : S3280.Idx → BitVec 32) (lo n : ℕ) : Prop :=
  ∀ j : S3280.Idx, lo ≤ (j 0).val → (j 0).val < lo + n → (iv j).toNat < 512

/-- Entry `o + x` of a scratch. -/
theorem unit_idx {o : Fin 1 → ℕ} (h : ∀ a, o a + S16.size a ≤ S3280.size a) (x : S16.Idx) :
    (((Rect.unit (s := S3280) o S16.size h).toLoadRect.idx x) 0).val = o 0 + (x 0).val := by
  rw [LoadRect.idx_apply]
  show o 0 + 1 * (x 0).val = _
  rw [one_mul]

theorem unit_idx_congr {o o' : Fin 1 → ℕ} (e : o = o') {h : ∀ a, o a + S16.size a ≤ S3280.size a} (x : S16.Idx) :
    (Rect.unit (s := S3280) o S16.size h).toLoadRect.idx x = (Rect.unit (s := S3280) o' S16.size (e ▸ h)).toLoadRect.idx x := by
  subst e; rfl

/-- After sixteen entries are written at `o`, entry `j` is the written one inside and the old one outside. -/
theorem write16_in (v : View sig .scVector .vmem S3280 .f32) {o : Fin 1 → ℕ} (h : ∀ a, o a + S16.size a ≤ S3280.size a)
    (f : v.ty.Contents (Elt F)) (w : S16.Idx → Elt F .f32) (x : S16.Idx) :
    v.read (Elt F) ((v.slice (Rect.unit (s := S3280) o S16.size h)).write (Elt F) f w Finset.univ)
      ((Rect.unit (s := S3280) o S16.size h).toLoadRect.idx x) = w x := by
  have := View.read_writes_cons_emb (Val := Elt F) v f (Rect.unit (s := S3280) o S16.size h) w [] x
  exact this

theorem write16_out (v : View sig .scVector .vmem S3280 .f32) {o : Fin 1 → ℕ} (h : ∀ a, o a + S16.size a ≤ S3280.size a)
    (f : v.ty.Contents (Elt F)) (w : S16.Idx → Elt F .f32) (j : S3280.Idx) (hj : (j 0).val < o 0 ∨ o 0 + 16 ≤ (j 0).val) :
    v.read (Elt F) ((v.slice (Rect.unit (s := S3280) o S16.size h)).write (Elt F) f w Finset.univ) j = v.read (Elt F) f j :=
  View.read_writes_cons_miss_of_axis (Val := Elt F) v f ⟨Rect.unit (s := S3280) o S16.size h, w⟩ [] j 0 (o 0) 16 rfl rfl rfl hj

/-- Sixteen more entries filled. -/
theorem Filled.store (v : View sig .scVector .vmem S3280 .f32) {t : S1024.Idx → Elt F .f32} {iv : S3280.Idx → BitVec 32} {off lo n : ℕ}
    {f : v.ty.Contents (Elt F)} (hf : Filled t iv off lo n (v.read (Elt F) f)) {o : Fin 1 → ℕ} (h : ∀ a, o a + S16.size a ≤ S3280.size a)
    (ho : o 0 = lo + n) (w : S16.Idx → Elt F .f32)
    (hw : ∀ x : S16.Idx, w x = t (scIx ((iv ((Rect.unit (s := S3280) o S16.size h).toLoadRect.idx x)).toNat + off))) :
    Filled t iv off lo (n + 16) (v.read (Elt F) ((v.slice (Rect.unit (s := S3280) o S16.size h)).write (Elt F) f w Finset.univ)) := by
  intro j hlo hhi
  by_cases hj : (j 0).val < lo + n
  · rw [write16_out v h f w j (.inl (by omega))]; exact hf j hlo hj
  · obtain ⟨x, hx⟩ : ∃ x : S16.Idx, (Rect.unit (s := S3280) o S16.size h).toLoadRect.idx x = j := by
      refine ⟨fun a => ⟨(j 0).val - o 0, by
        obtain rfl : a = 0 := Subsingleton.elim (α := Fin 1) a 0
        show _ < 16; omega⟩, ?_⟩
      funext a
      obtain rfl : a = 0 := Subsingleton.elim (α := Fin 1) a 0
      apply Fin.ext
      rw [unit_idx]
      show o 0 + ((j 0).val - o 0) = _
      omega
    rw [← hx, write16_in v h f w x]; exact hw x

variable (d : Dev nD) (L : grid1.Coords)

/-- What the loops keep: the task's table and ids, and the two scratches filled up to `n` entries after `lo`. -/
def tripInv (t : Buf (Elt F) ((vthr d L).loc cc1_scratch0)) (iv : Buf (Elt F) ((vthr d L).loc cc1_scratch1)) (lo n : ℕ) : sProp 𝕄 :=
  iprop(((vthr d L).loc cc1_scratch0 ↦{fullShare} t) ∗ ((vthr d L).loc cc1_scratch1 ↦{fullShare} iv)
    ∗ (∃ f : Buf (Elt F) ((vthr d L).loc cc1_scratch2), ⌜Filled t iv 0 lo n f⌝ ∗ (vthr d L).loc cc1_scratch2 ↦{fullShare} f)
    ∗ ∃ f : Buf (Elt F) ((vthr d L).loc cc1_scratch3), ⌜Filled t iv 512 lo n f⌝ ∗ (vthr d L).loc cc1_scratch3 ↦{fullShare} f)

/-- What the indexed load reads: the table's entry at the id there, `off` later. -/
theorem loadIdx_at (t : S1024.Idx → Elt F .f32) (v : IVec S16 32) (h : ∀ a x, ((![v] : Fin S1024.rank → IVec S16 32) a x).toNat < S1024.size a) (x : S16.Idx) (k : ℕ)
    (hk : (v x).toNat = k) (hlt : k < 1024) : loadIdx (F := F) (e := .f32) t ![v] h x = t (scIx k) := by
  unfold loadIdx
  congr 1
  funext a
  obtain rfl : a = 0 := Subsingleton.elim (α := Fin 1) a 0
  apply Fin.ext
  show (v x).toNat = k % 1024
  rw [hk, Nat.mod_eq_of_lt hlt]

/-- The table's scratch read whole is its contents. -/
theorem read_sT (t : S1024.Idx → Elt F .f32) : (sT.access (.whole S1024)).read (Elt F) t = t := by
  funext x
  refine (View.read_apply _ _).trans ((cast_eq _ _).trans (congrArg t ?_))
  funext a
  apply Fin.ext
  show 0 + 1 * (x a).val = (x a).val
  omega

theorem add512 (b : BitVec 32) (h : b.toNat < 512) : (b + 512#32).toNat = b.toNat + 512 := by
  rw [BitVec.toNat_add]
  show (b.toNat + 512) % 2 ^ 32 = _
  omega

set_option maxHeartbeats 4000000 in
theorem trip1 (t : Buf (Elt F) ((vthr d L).loc cc1_scratch0)) (iv : Buf (Elt F) ((vthr d L).loc cc1_scratch1)) (hiv : Ranged iv 0 3120)
    (k : Fin k1_t1_loop.trips) :
    tripInv d L t iv 0 (16 * k.val)
      ⊢ wp frame (wpE (defs₀ (F := F)) 𝒱₀ (vthr d L) none) Set.univ
          (k1_t1_body L tbV (Memref.isWhole_whole _) idV (Memref.isWhole_whole _) muV (Memref.isWhole_whole _) rsV (Memref.isWhole_whole _)
            sT (Memref.isWhole_whole _) sI (Memref.isWhole_whole _) sM (Memref.isWhole_whole _) sR (Memref.isWhole_whole _)
            cc1_scoped0 cc1_scoped1 cc1_scoped2 cc1_scoped3 cc1_scoped4 cc1_scoped5 cc1_scoped6 k ())
          fun _ => tripInv d L t iv 0 (16 * (k.val + 1)) := by
  have hk : k.val < 195 := k.isLt
  unfold k1_t1_body tripInv
  simp only [Prog.lift, Prog.bind_op, Prog.bind_ret, Prog.pure_eq_ret]
  iintro ⟨HT, HI, ⟨%f8, %h8, HM⟩, %f9, %h9, HR⟩
  have hv : ∀ x : S16.Idx, (sI.view.readAt (Elt F) (Rect.unit (s := S3280) (k1_off2 k) S16.size (k1_off2_inb k)).toLoadRect iv x)
      = iv ((Rect.unit (s := S3280) (k1_off2 k) S16.size (k1_off2_inb k)).toLoadRect.idx x) := fun x => by
    exact (View.readAt_apply _ _ _).trans (congrFun (View.read_whole _ _) _)
  have hr : ∀ x : S16.Idx, (sI.view.readAt (Elt F) (Rect.unit (s := S3280) (k1_off2 k) S16.size (k1_off2_inb k)).toLoadRect iv x).toNat < 512 := fun x => by
    rw [hv]
    refine hiv _ (Nat.zero_le _) ?_
    rw [unit_idx, k1_off2_eq]
    have : (x 0).val < 16 := (x 0).isLt
    show 16 * k.val + _ < _
    omega
  have hg0 : ∀ h (x : S16.Idx), loadIdx (F := F) (e := .f32) ((sT.access (.whole S1024)).read (Elt F) t)
      ![sI.view.readAt (Elt F) (Rect.unit (s := S3280) (k1_off2 k) S16.size (k1_off2_inb k)).toLoadRect iv] h x
        = t (scIx ((iv ((Rect.unit (s := S3280) (k1_off3 k) S16.size (k1_off3_inb k)).toLoadRect.idx x)).toNat + 0)) := fun h x => by
    rw [read_sT]
    refine (loadIdx_at _ _ h x _ rfl (lt_of_lt_of_le (hr x) (by decide))).trans ?_
    rw [hv, Nat.add_zero, unit_idx_congr ((k1_off2_eq k).trans (k1_off3_eq k).symm)]
  have hg1 : ∀ h (x : S16.Idx), loadIdx (F := F) (e := .f32) ((sT.access (.whole S1024)).read (Elt F) t)
      ![k1_pay2 (F := F) (sI.view.readAt (Elt F) (Rect.unit (s := S3280) (k1_off2 k) S16.size (k1_off2_inb k)).toLoadRect iv)] h x
        = t (scIx ((iv ((Rect.unit (s := S3280) (k1_off4 k) S16.size (k1_off4_inb k)).toLoadRect.idx x)).toNat + 512)) := fun h x => by
    have := hr x
    rw [read_sT]
    refine (loadIdx_at _ _ h x _ (add512 _ (hr x)) (by omega)).trans ?_
    rw [hv, unit_idx_congr ((k1_off2_eq k).trans (k1_off4_eq k).symm)]
  iapply (wp_load 𝒱₀ (vthr d L) none Set.univ (m := sI) (S := Finset.univ) (Finset.subset_univ _)) $$ HI; iintro HI
  rw [wp_assume_of _ _ _ _ (show k1_chk1 _ from fun a x => by
    obtain rfl : a = 0 := Subsingleton.elim (α := Fin 1) a 0
    exact lt_of_lt_of_le (hr x) (by decide))]
  iapply (SparseCore.wp_vectorLoadIdx 𝒱₀ (vthr d L) none Set.univ (base := sT) (S := Finset.univ) (q := fullShare) (Finset.subset_univ _)) $$ HT; iintro HT
  iapply (wp_load 𝒱₀ (vthr d L) none Set.univ (m := sM) (S := Finset.univ) (Finset.subset_univ _)) $$ HM; iintro HM
  iapply (wp_store 𝒱₀ (vthr d L) none Set.univ (m := sM) (r := Rect.unit (s := S3280) (k1_off3 k) S16.size (k1_off3_inb k)) (Mk := Finset.univ) (S := Finset.univ) (Finset.subset_univ _)) $$ HM; iintro HM
  rw [wp_assume_of _ _ _ _ (show k1_chk2 _ from fun a x => by
    obtain rfl : a = 0 := Subsingleton.elim (α := Fin 1) a 0
    have e := add512 _ (hr x)
    have := hr x
    show (_ : BitVec 32).toNat < 1024
    refine lt_of_le_of_lt (le_of_eq e) ?_
    omega)]
  iapply (SparseCore.wp_vectorLoadIdx 𝒱₀ (vthr d L) none Set.univ (base := sT) (S := Finset.univ) (q := fullShare) (Finset.subset_univ _)) $$ HT; iintro HT
  iapply (wp_load 𝒱₀ (vthr d L) none Set.univ (m := sR) (S := Finset.univ) (Finset.subset_univ _)) $$ HR; iintro HR
  iapply (wp_store 𝒱₀ (vthr d L) none Set.univ (m := sR) (r := Rect.unit (s := S3280) (k1_off4 k) S16.size (k1_off4_inb k)) (Mk := Finset.univ) (S := Finset.univ) (Finset.subset_univ _)) $$ HR; iintro HR
  rw [wp_ret]; imodintro
  isplitl [HT]; · iexact HT
  isplitl [HI]; · iexact HI
  isplitl [HM]
  · iexists _; isplitr; swap; · iexact HM
    ipureintro
    exact Filled.store sM.view h8 (k1_off3_inb k) (by rw [k1_off3_eq]; simp) _ (hg0 _)
  iexists _; isplitr; swap; · iexact HR
  ipureintro
  exact Filled.store sR.view h9 (k1_off4_inb k) (by rw [k1_off4_eq]; simp) _ (hg1 _)

set_option maxHeartbeats 4000000 in
theorem trip2 (t : Buf (Elt F) ((vthr d L).loc cc1_scratch0)) (iv : Buf (Elt F) ((vthr d L).loc cc1_scratch1)) (hiv : Ranged iv 3120 160)
    (k1_h1 : k1_cond1 L = 1#1) (k : Fin k1_t2_loop.trips) :
    tripInv d L t iv 3120 (16 * k.val)
      ⊢ wp frame (wpE (defs₀ (F := F)) 𝒱₀ (vthr d L) none) Set.univ
          (k1_t2_body L tbV (Memref.isWhole_whole _) idV (Memref.isWhole_whole _) muV (Memref.isWhole_whole _) rsV (Memref.isWhole_whole _)
            sT (Memref.isWhole_whole _) sI (Memref.isWhole_whole _) sM (Memref.isWhole_whole _) sR (Memref.isWhole_whole _)
            cc1_scoped0 cc1_scoped1 cc1_scoped2 cc1_scoped3 cc1_scoped4 cc1_scoped5 cc1_scoped6 k1_h1 k ())
          fun _ => tripInv d L t iv 3120 (16 * (k.val + 1)) := by
  have hk : k.val < 10 := k.isLt
  unfold k1_t2_body tripInv
  simp only [Prog.lift, Prog.bind_op, Prog.bind_ret, Prog.pure_eq_ret]
  iintro ⟨HT, HI, ⟨%f8, %h8, HM⟩, %f9, %h9, HR⟩
  have hv : ∀ x : S16.Idx, (sI.view.readAt (Elt F) (Rect.unit (s := S3280) (k1_off5 k) S16.size (k1_off5_inb L k k1_h1)).toLoadRect iv x)
      = iv ((Rect.unit (s := S3280) (k1_off5 k) S16.size (k1_off5_inb L k k1_h1)).toLoadRect.idx x) := fun x => by
    exact (View.readAt_apply _ _ _).trans (congrFun (View.read_whole _ _) _)
  have hr : ∀ x : S16.Idx, (sI.view.readAt (Elt F) (Rect.unit (s := S3280) (k1_off5 k) S16.size (k1_off5_inb L k k1_h1)).toLoadRect iv x).toNat < 512 := fun x => by
    rw [hv]
    refine hiv _ ?_ ?_ <;> rw [unit_idx, k1_off5_eq]
    · show 3120 ≤ 16 * k.val + 3120 + _; omega
    have : (x 0).val < 16 := (x 0).isLt
    show 16 * k.val + 3120 + _ < _
    omega
  have hg0 : ∀ h (x : S16.Idx), loadIdx (F := F) (e := .f32) ((sT.access (.whole S1024)).read (Elt F) t)
      ![sI.view.readAt (Elt F) (Rect.unit (s := S3280) (k1_off5 k) S16.size (k1_off5_inb L k k1_h1)).toLoadRect iv] h x
        = t (scIx ((iv ((Rect.unit (s := S3280) (k1_off6 k) S16.size (k1_off6_inb L k k1_h1)).toLoadRect.idx x)).toNat + 0)) := fun h x => by
    rw [read_sT]
    refine (loadIdx_at _ _ h x _ rfl (lt_of_lt_of_le (hr x) (by decide))).trans ?_
    rw [hv, Nat.add_zero, unit_idx_congr ((k1_off5_eq k).trans (k1_off6_eq k).symm)]
  have hg1 : ∀ h (x : S16.Idx), loadIdx (F := F) (e := .f32) ((sT.access (.whole S1024)).read (Elt F) t)
      ![k1_pay1 (F := F) (sI.view.readAt (Elt F) (Rect.unit (s := S3280) (k1_off5 k) S16.size (k1_off5_inb L k k1_h1)).toLoadRect iv)] h x
        = t (scIx ((iv ((Rect.unit (s := S3280) (k1_off7 k) S16.size (k1_off7_inb L k k1_h1)).toLoadRect.idx x)).toNat + 512)) := fun h x => by
    have := hr x
    rw [read_sT]
    refine (loadIdx_at _ _ h x _ (add512 _ (hr x)) (by omega)).trans ?_
    rw [hv, unit_idx_congr ((k1_off5_eq k).trans (k1_off7_eq k).symm)]
  iapply (wp_load 𝒱₀ (vthr d L) none Set.univ (m := sI) (S := Finset.univ) (Finset.subset_univ _)) $$ HI; iintro HI
  rw [wp_assume_of _ _ _ _ (show k1_chk3 _ _ from fun _ a x => by
    obtain rfl : a = 0 := Subsingleton.elim (α := Fin 1) a 0
    exact lt_of_lt_of_le (hr x) (by decide))]
  iapply (SparseCore.wp_vectorLoadIdx 𝒱₀ (vthr d L) none Set.univ (base := sT) (S := Finset.univ) (q := fullShare) (Finset.subset_univ _)) $$ HT; iintro HT
  iapply (wp_load 𝒱₀ (vthr d L) none Set.univ (m := sM) (S := Finset.univ) (Finset.subset_univ _)) $$ HM; iintro HM
  iapply (wp_store 𝒱₀ (vthr d L) none Set.univ (m := sM) (r := Rect.unit (s := S3280) (k1_off6 k) S16.size (k1_off6_inb L k k1_h1)) (Mk := Finset.univ) (S := Finset.univ) (Finset.subset_univ _)) $$ HM; iintro HM
  rw [wp_assume_of _ _ _ _ (show k1_chk4 _ _ from fun _ a x => by
    obtain rfl : a = 0 := Subsingleton.elim (α := Fin 1) a 0
    have e := add512 _ (hr x)
    have := hr x
    show (_ : BitVec 32).toNat < 1024
    refine lt_of_le_of_lt (le_of_eq e) ?_
    omega)]
  iapply (SparseCore.wp_vectorLoadIdx 𝒱₀ (vthr d L) none Set.univ (base := sT) (S := Finset.univ) (q := fullShare) (Finset.subset_univ _)) $$ HT; iintro HT
  iapply (wp_load 𝒱₀ (vthr d L) none Set.univ (m := sR) (S := Finset.univ) (Finset.subset_univ _)) $$ HR; iintro HR
  iapply (wp_store 𝒱₀ (vthr d L) none Set.univ (m := sR) (r := Rect.unit (s := S3280) (k1_off7 k) S16.size (k1_off7_inb L k k1_h1)) (Mk := Finset.univ) (S := Finset.univ) (Finset.subset_univ _)) $$ HR; iintro HR
  rw [wp_ret]; imodintro
  isplitl [HT]; · iexact HT
  isplitl [HI]; · iexact HI
  isplitl [HM]
  · iexists _; isplitr; swap; · iexact HM
    ipureintro
    exact Filled.store sM.view h8 (k1_off6_inb L k k1_h1) (by rw [k1_off6_eq]; simp [Nat.add_comm]) _ (hg0 _)
  iexists _; isplitr; swap; · iexact HR
  ipureintro
  exact Filled.store sR.view h9 (k1_off7_inb L k k1_h1) (by rw [k1_off7_eq]; simp [Nat.add_comm]) _ (hg1 _)

end Cert.Proof.Seg

end
-- ==== Proof.Tile.lean ====
/-
  The SparseCore body on one vector subcore: the table's two rows and the task's ids are copied in, the gather's loop
  run, the two gathered scratches copied out; the last task does the tail of 160 entries besides. What it leaves is
  `gMu`, `gRs` at the task's rows.
-/
module

public import proofs.«01_k».proof.Proof.Trip

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The task's semaphores and scratches, pulled out of its own -/

abbrev cell (sm : DmaSems sig S_) : GSem nD τ sig := (vthr d L, .dma sm.sem)

omit [FloatOps F] in
theorem scoped_cell (sm : DmaSems sig S_) (h : (SemLoc.dma sm.sem : SemLoc sig).isScoped .scVector = true) :
    cell d L sm ∈ ownCells (vthr d L) := mem_ownCells.mpr ⟨rfl, h⟩

omit [FloatOps F] in
theorem cell_ne {a b : DmaSems sig S_} (h : (a.sem : DmaSem sig) ≠ b.sem) : cell d L a ≠ cell d L b := by
  intro e; exact h (by simpa using e)

/-- What is left of the task's own cells. -/
abbrev restCells : Finset (GSem nD τ sig) :=
  (((((((ownCells (vthr d L)).erase (cell d L cc1_scoped0)).erase (cell d L cc1_scoped1)).erase (cell d L cc1_scoped2)).erase
    (cell d L cc1_scoped3)).erase (cell d L cc1_scoped4)).erase (cell d L cc1_scoped5)).erase (cell d L cc1_scoped6)

omit [FloatOps F] in
theorem ownSems0_V :
    (ownSems0 (vthr d L) : sProp 𝕄)
      = iprop(semVal (cell d L cc1_scoped0) 0 ∗ semVal (cell d L cc1_scoped1) 0 ∗ semVal (cell d L cc1_scoped2) 0
          ∗ semVal (cell d L cc1_scoped3) 0 ∗ semVal (cell d L cc1_scoped4) 0 ∗ semVal (cell d L cc1_scoped5) 0
          ∗ semVal (cell d L cc1_scoped6) 0 ∗ bigSep (restCells d L) fun g => semVal g 0) := by
  unfold SparseCore.Cfg.ownSems0
  have m := fun sm h => scoped_cell d L sm h
  have n := fun (a b : DmaSems sig S_) h => cell_ne d L (a := a) (b := b) h
  rw [SparseCore.bigSep_erase' (m cc1_scoped0 (by decide)),
    SparseCore.bigSep_erase' (Finset.mem_erase.mpr ⟨n cc1_scoped1 cc1_scoped0 (by decide), m cc1_scoped1 (by decide)⟩),
    SparseCore.bigSep_erase' (Finset.mem_erase.mpr ⟨n cc1_scoped2 cc1_scoped1 (by decide), Finset.mem_erase.mpr ⟨n cc1_scoped2 cc1_scoped0 (by decide),
      m cc1_scoped2 (by decide)⟩⟩),
    SparseCore.bigSep_erase' (Finset.mem_erase.mpr ⟨n cc1_scoped3 cc1_scoped2 (by decide), Finset.mem_erase.mpr ⟨n cc1_scoped3 cc1_scoped1 (by decide),
      Finset.mem_erase.mpr ⟨n cc1_scoped3 cc1_scoped0 (by decide), m cc1_scoped3 (by decide)⟩⟩⟩),
    SparseCore.bigSep_erase' (Finset.mem_erase.mpr ⟨n cc1_scoped4 cc1_scoped3 (by decide), Finset.mem_erase.mpr ⟨n cc1_scoped4 cc1_scoped2 (by decide),
      Finset.mem_erase.mpr ⟨n cc1_scoped4 cc1_scoped1 (by decide), Finset.mem_erase.mpr ⟨n cc1_scoped4 cc1_scoped0 (by decide), m cc1_scoped4 (by decide)⟩⟩⟩⟩),
    SparseCore.bigSep_erase' (Finset.mem_erase.mpr ⟨n cc1_scoped5 cc1_scoped4 (by decide), Finset.mem_erase.mpr ⟨n cc1_scoped5 cc1_scoped3 (by decide),
      Finset.mem_erase.mpr ⟨n cc1_scoped5 cc1_scoped2 (by decide), Finset.mem_erase.mpr ⟨n cc1_scoped5 cc1_scoped1 (by decide),
      Finset.mem_erase.mpr ⟨n cc1_scoped5 cc1_scoped0 (by decide), m cc1_scoped5 (by decide)⟩⟩⟩⟩⟩),
    SparseCore.bigSep_erase' (Finset.mem_erase.mpr ⟨n cc1_scoped6 cc1_scoped5 (by decide), Finset.mem_erase.mpr ⟨n cc1_scoped6 cc1_scoped4 (by decide),
      Finset.mem_erase.mpr ⟨n cc1_scoped6 cc1_scoped3 (by decide), Finset.mem_erase.mpr ⟨n cc1_scoped6 cc1_scoped2 (by decide),
      Finset.mem_erase.mpr ⟨n cc1_scoped6 cc1_scoped1 (by decide), Finset.mem_erase.mpr ⟨n cc1_scoped6 cc1_scoped0 (by decide), m cc1_scoped6 (by decide)⟩⟩⟩⟩⟩⟩)]

abbrev scr (b : Ref sig .scVector) : DevRef τ sig := (Proc.scVector (cV L) (jV L)).devRef b

omit [FloatOps F] in
theorem scr_ne {a b : Ref sig .scVector} (h : a ≠ b) : scr L a ≠ scr L b := fun e => absurd (Proc.devRef_injective _ e) h

/-- What is left of the task's own buffers. -/
abbrev restRefs : Finset (DevRef τ sig) :=
  ((((ownRefs (τ := τ) (.scVector (cV L) (jV L))).erase (scr L cc1_scratch0)).erase (scr L cc1_scratch1)).erase (scr L cc1_scratch2)).erase
    (scr L cc1_scratch3)

omit [FloatOps F] in
theorem ownBufs_V :
    (ownBufs (vthr d L) : sProp 𝕄)
      = iprop((∃ f, (vthr d L).loc cc1_scratch0 ↦{fullShare} f) ∗ (∃ f, (vthr d L).loc cc1_scratch1 ↦{fullShare} f)
          ∗ (∃ f, (vthr d L).loc cc1_scratch2 ↦{fullShare} f) ∗ (∃ f, (vthr d L).loc cc1_scratch3 ↦{fullShare} f)
          ∗ bigSep (restRefs L) fun b => iprop(∃ f, ((d, b) : Loc nD τ sig) ↦{fullShare} f)) := by
  unfold SparseCore.Cfg.ownBufs
  have n := fun (a b : Ref sig .scVector) h => scr_ne L (a := a) (b := b) h
  refine (SparseCore.bigSep_erase' (SparseCore.Cfg.mem_ownRefs_of_owner (p := Proc.scVector (cV L) (jV L)) (b := scr L cc1_scratch0) rfl)).trans ?_
  rw [SparseCore.bigSep_erase' (Finset.mem_erase.mpr ⟨n cc1_scratch1 cc1_scratch0 (by decide),
      SparseCore.Cfg.mem_ownRefs_of_owner (p := Proc.scVector (cV L) (jV L)) (b := scr L cc1_scratch1) rfl⟩),
    SparseCore.bigSep_erase' (Finset.mem_erase.mpr ⟨n cc1_scratch2 cc1_scratch1 (by decide), Finset.mem_erase.mpr ⟨n cc1_scratch2 cc1_scratch0 (by decide),
      SparseCore.Cfg.mem_ownRefs_of_owner (p := Proc.scVector (cV L) (jV L)) (b := scr L cc1_scratch2) rfl⟩⟩),
    SparseCore.bigSep_erase' (Finset.mem_erase.mpr ⟨n cc1_scratch3 cc1_scratch2 (by decide), Finset.mem_erase.mpr ⟨n cc1_scratch3 cc1_scratch1 (by decide),
      Finset.mem_erase.mpr ⟨n cc1_scratch3 cc1_scratch0 (by decide),
      SparseCore.Cfg.mem_ownRefs_of_owner (p := Proc.scVector (cV L) (jV L)) (b := scr L cc1_scratch3) rfl⟩⟩⟩)]

/-! ## The task's rows -/

/-- The task's flat number. -/
def num : ℕ := 16 * (L 0).val + (L 1).val

/-- The rectangle of the task's 3120 entries. -/
abbrev headR : Rect S100000 := Rect.unit (s := S100000) (k1_off1 L) S3120.size (k1_off1_inb L)
/-- The rectangle of the last 160 entries. -/
abbrev tailR : Rect S100000 := Rect.unit (s := S100000) ![99840] S160.size inb_S100000_S160_99840

/-- The means' entries the task's first write-out covers. -/
abbrev muHead : Memref sig .scVector .hbm S3120 .f32 := muV.slice (headR L) (fun _ => rfl)
abbrev rsHead : Memref sig .scVector .hbm S3120 .f32 := rsV.slice (headR L) (fun _ => rfl)
abbrev muTail : Memref sig .scVector .hbm S160 .f32 := muV.slice tailR (fun _ => rfl)
abbrev rsTail : Memref sig .scVector .hbm S160 .f32 := rsV.slice tailR (fun _ => rfl)

omit [FloatOps F] in
theorem num_lt : num L < 32 := by
  have h0 : (L 0).val < 2 := (L 0).isLt
  have h1 : (L 1).val < 16 := (L 1).isLt
  unfold num; omega

/-- The tail is the last task's. -/
theorem cond_tab : ∀ (a : Fin 2) (b : Fin 16),
    Scalar.cmpi .ne ((Scalar.extui (Scalar.cmpi .eq (Scalar.addi (Scalar.muli (BitVec.ofNat 32 a.val) 16#32) (BitVec.ofNat 32 b.val)) 31#32) : BitVec 32)) 0#32 = 1#1
      ↔ 16 * a.val + b.val = 31 := by decide

theorem cond_iff : k1_cond1 L = 1#1 ↔ num L = 31 := cond_tab ⟨(L 0).val, (L 0).isLt⟩ ⟨(L 1).val, (L 1).isLt⟩

/-! ## What the copies bring in -/

/-- The task's table is the flat table's first 1024 entries. -/
def TabOK (tb : S4096.Idx → Elt F .f32) (t : S1024.Idx → Elt F .f32) : Prop := ∀ k, k < 1024 → t (scIx k) = tb (tbIx k)

/-- The task's scratch holds the ids of `n` entries from `lo` on: those from `base` on of the array. -/
def IdsOK (id : S100000.Idx → BitVec 32) (iv : S3280.Idx → BitVec 32) (base lo n : ℕ) : Prop :=
  ∀ (j : S3280.Idx) (g : S100000.Idx), lo ≤ (j 0).val → (j 0).val < lo + n → (g 0).val = base + ((j 0).val - lo) → iv j = id g

theorem table_in (tb : Buf (Elt F) (tbLoc d)) (f0 : Buf (Elt F) ((vthr d L).loc cc1_scratch0)) (w : S1024.Idx → Elt F .f32)
    (hw : w = (tbV.slice (Rect.unit (s := S4096) ![0] S1024.size inb_S4096_S1024_0) (fun _ => rfl)).view.read (Elt F) tb) :
    (sT.view.loc (vthr d L) ↦{fullShare} sT.view.write (Elt F) f0 w Finset.univ : sProp 𝕄)
      ⊢ iprop(∃ t : Buf (Elt F) ((vthr d L).loc cc1_scratch0), ⌜TabOK tb t⌝ ∗ (vthr d L).loc cc1_scratch0 ↦{fullShare} t) := by
  iintro H
  iexists (sT.view.write (Elt F) f0 w Finset.univ); isplitr; swap; · iexact H
  ipureintro
  intro k hk
  rw [show sT.view.write (Elt F) f0 w Finset.univ = w from View.write_whole_univ _ _ _, hw]
  refine (View.read_apply _ _).trans ((cast_eq _ _).trans (congrArg tb ?_))
  funext a
  obtain rfl : a = 0 := Subsingleton.elim (α := Fin 1) a 0
  apply Fin.ext
  show 0 + 1 * (k % 1024) = k % 4096
  omega

/-- A rectangle of a vector, read at an index by its place. -/
theorem unit1_emb {N : ℕ} {o z : Fin 1 → ℕ} (h : ∀ a, o a + z a ≤ (⟨1, ![N]⟩ : Shape).size a) (x : (⟨1, z⟩ : Shape).Idx) :
    ((Rect.unit (s := ⟨1, ![N]⟩) o z h).emb x 0).val = o 0 + (x 0).val := by
  rw [Rect.emb_apply]
  show o 0 + 1 * (x 0).val = _
  rw [one_mul]

/-- An index of a rectangle of a vector, from its coordinate. -/
theorem unit1_surj {N : ℕ} {o z : Fin 1 → ℕ} (h : ∀ a, o a + z a ≤ (⟨1, ![N]⟩ : Shape).size a) (j : (⟨1, ![N]⟩ : Shape).Idx)
    (h0 : o 0 ≤ (j 0).val) (h1 : (j 0).val < o 0 + z 0) : ∃ x : (⟨1, z⟩ : Shape).Idx, (Rect.unit (s := ⟨1, ![N]⟩) o z h).emb x = j := by
  refine ⟨fun a => ⟨(j 0).val - o 0, by
    obtain rfl : a = 0 := Subsingleton.elim (α := Fin 1) a 0
    show _ < z 0; omega⟩, ?_⟩
  funext a
  obtain rfl : a = 0 := Subsingleton.elim (α := Fin 1) a 0
  apply Fin.ext
  rw [unit1_emb]
  show o 0 + ((j 0).val - o 0) = _
  omega

theorem idx1_ext {N : ℕ} {i j : (⟨1, ![N]⟩ : Shape).Idx} (h : (i 0).val = (j 0).val) : i = j := by
  funext a
  obtain rfl : a = 0 := Subsingleton.elim (α := Fin 1) a 0
  exact Fin.ext h

/-- Ids copied from `o` on of the array to `q` on of the scratch. -/
theorem ids_in (id : Buf (Elt F) (idLoc d)) (f1 : Buf (Elt F) ((vthr d L).loc cc1_scratch1)) {o q z : Fin 1 → ℕ}
    (ho : ∀ a, o a + z a ≤ S100000.size a) (hq : ∀ a, q a + z a ≤ S3280.size a) (w : (⟨1, z⟩ : Shape).Idx → Elt F .i32)
    (hw : w = (idV.slice (Rect.unit (s := S100000) o z ho) (fun _ => rfl)).view.read (Elt F) id) :
    (sI.view.loc (vthr d L) ↦{fullShare} sI.view.writes (Elt F) f1 [⟨Rect.unit (s := S3280) q z hq, w⟩] : sProp 𝕄)
      ⊢ iprop(∃ iv : Buf (Elt F) ((vthr d L).loc cc1_scratch1), ⌜IdsOK id iv (o 0) (q 0) (z 0)⌝ ∗ (vthr d L).loc cc1_scratch1 ↦{fullShare} iv) := by
  iintro H
  iexists (sI.view.writes (Elt F) f1 [⟨Rect.unit (s := S3280) q z hq, w⟩]); isplitr; swap; · iexact H
  ipureintro
  intro j g hlo hhi hg
  obtain ⟨x, rfl⟩ := unit1_surj hq j hlo hhi
  refine (show _ = w x from View.read_writes_cons_emb (Val := Elt F) sI.view f1 (Rect.unit (s := S3280) q z hq) w [] x).trans ?_
  rw [hw]
  refine (View.read_apply _ _).trans ((cast_eq _ _).trans (congrArg id ?_))
  refine idx1_ext (N := 100000) ((unit1_emb ho x).trans ?_)
  rw [hg, unit1_emb]
  omega

theorem IdsOK.ranged {id : S100000.Idx → BitVec 32} {iv : S3280.Idx → BitVec 32} {base lo n : ℕ} (h : IdsOK id iv base lo n) (hb : base + n ≤ 100000)
    (hid : ∀ j : S100000.Idx, (id j).toNat < 512) : Ranged iv lo n := by
  intro j hlo hhi
  have : base + ((j 0).val - lo) < 100000 := by omega
  rw [h j (fun a => ⟨base + ((j 0).val - lo), by
    obtain rfl : a = 0 := Subsingleton.elim (α := Fin 1) a 0
    exact this⟩) hlo hhi rfl]
  exact hid _

/-- What was filled, said of the array's entries. -/
theorem gathered {tb : S4096.Idx → Elt F .f32} {t : S1024.Idx → Elt F .f32} {id : S100000.Idx → BitVec 32} {iv : S3280.Idx → BitVec 32} {off lo n base : ℕ}
    {f : S3280.Idx → Elt F .f32} (hf : Filled t iv off lo n f) (ht : TabOK tb t) (hi : IdsOK id iv base lo n)
    (hid : ∀ j : S100000.Idx, (id j).toNat < 512) (hoff : off ≤ 512) (j : S3280.Idx) (i : S100000.Idx)
    (hlo : lo ≤ (j 0).val) (hhi : (j 0).val < lo + n) (he : (i 0).val = base + ((j 0).val - lo)) :
    f j = tb (tbIx ((id i).toNat + off)) := by
  rw [hf j hlo hhi, hi j i hlo hhi he, ht _ (by have := hid i; omega)]

/-- Entries copied out from `q` on of a scratch to `o` on of an array. -/
theorem out_at (v : View sig .scVector .hbm S100000 .f32) (u : View sig .scVector .vmem S3280 .f32) {o q z : Fin 1 → ℕ}
    (ho : ∀ a, o a + z a ≤ S100000.size a) (hq : ∀ a, q a + z a ≤ S3280.size a) (g : v.ty.Contents (Elt F)) (f : u.ty.Contents (Elt F))
    (w : (⟨1, z⟩ : Shape).Idx → Elt F .f32) (hw : w = (u.slice (Rect.unit (s := S3280) q z hq)).read (Elt F) f) (x : (⟨1, z⟩ : Shape).Idx) :
    v.read (Elt F) ((v.slice (Rect.unit (s := S100000) o z ho)).writes (Elt F) g [⟨Rect.whole _, w⟩]) ((Rect.unit (s := S100000) o z ho).emb x)
      = u.read (Elt F) f ((Rect.unit (s := S3280) q z hq).emb x) := by
  have h := View.read_writes_cons_emb (Val := Elt F) (v.slice (Rect.unit (s := S100000) o z ho)) g (Rect.whole _) w [] x
  rw [Rect.emb_whole_apply] at h
  exact h.trans (congrFun hw x)

section Out

variable {d L} {tb : Buf (Elt F) (tbLoc d)} {id : Buf (Elt F) (idLoc d)} {t : S1024.Idx → Elt F .f32} {iv : S3280.Idx → BitVec 32}
  {o q z : Fin 1 → ℕ} (ho : ∀ a, o a + z a ≤ S100000.size a) (hq : ∀ a, q a + z a ≤ S3280.size a)
  (ht : TabOK tb t) (hi : IdsOK id iv (o 0) (q 0) (z 0)) (hid : ∀ j : S100000.Idx, ((id : S100000.Idx → BitVec 32) j).toNat < 512)

include ht hi hid

/-- The means' write-out leaves the gathered means. -/
theorem mu_out (g : Buf (Elt F) (muLoc d)) (f : Buf (Elt F) ((vthr d L).loc cc1_scratch2)) (hf : Filled t iv 0 (q 0) (z 0) f)
    (w : (⟨1, z⟩ : Shape).Idx → Elt F .f32) (hw : w = (sM.slice (Rect.unit (s := S3280) q z hq) (fun _ => rfl)).view.read (Elt F) f) :
    ((muV.slice (Rect.unit (s := S100000) o z ho) (fun _ => rfl)).view.loc (vthr d L)
        ↦[(muV.slice (Rect.unit (s := S100000) o z ho) (fun _ => rfl)).view.set]{fullShare}
          (muV.slice (Rect.unit (s := S100000) o z ho) (fun _ => rfl)).view.writes (Elt F) g [⟨Rect.whole _, w⟩] : sProp 𝕄)
      ⊢ muLoc d ↦[(muV.slice (Rect.unit (s := S100000) o z ho) (fun _ => rfl)).view.set]{fullShare} (gMu tb id : Buf (Elt F) (muLoc d)) := by
  refine Entails.of_eq (pointsTo_congr (ℓ := muLoc d) fun i hmem => ?_)
  obtain ⟨x, -, rfl⟩ := Finset.mem_map.mp hmem
  refine (out_at muV.view sM.view ho hq g f w hw x).trans ?_
  have hx : (x 0).val < z 0 := (x 0).isLt
  refine gathered (off := 0) hf ht hi hid (by omega) ((Rect.unit (s := S3280) q z hq).emb x) _ ?_ ?_ ?_
  · rw [unit1_emb]; omega
  · rw [unit1_emb]; omega
  · refine (unit1_emb ho x).trans ?_; rw [unit1_emb]; omega

/-- The reciprocal deviations' write-out leaves the gathered ones. -/
theorem rs_out (g : Buf (Elt F) (rsLoc d)) (f : Buf (Elt F) ((vthr d L).loc cc1_scratch3)) (hf : Filled t iv 512 (q 0) (z 0) f)
    (w : (⟨1, z⟩ : Shape).Idx → Elt F .f32) (hw : w = (sR.slice (Rect.unit (s := S3280) q z hq) (fun _ => rfl)).view.read (Elt F) f) :
    ((rsV.slice (Rect.unit (s := S100000) o z ho) (fun _ => rfl)).view.loc (vthr d L)
        ↦[(rsV.slice (Rect.unit (s := S100000) o z ho) (fun _ => rfl)).view.set]{fullShare}
          (rsV.slice (Rect.unit (s := S100000) o z ho) (fun _ => rfl)).view.writes (Elt F) g [⟨Rect.whole _, w⟩] : sProp 𝕄)
      ⊢ rsLoc d ↦[(rsV.slice (Rect.unit (s := S100000) o z ho) (fun _ => rfl)).view.set]{fullShare} (gRs tb id : Buf (Elt F) (rsLoc d)) := by
  refine Entails.of_eq (pointsTo_congr (ℓ := rsLoc d) fun i hmem => ?_)
  obtain ⟨x, -, rfl⟩ := Finset.mem_map.mp hmem
  refine (out_at rsV.view sR.view ho hq g f w hw x).trans ?_
  have hx : (x 0).val < z 0 := (x 0).isLt
  refine gathered (off := 512) hf ht hi hid (by omega) ((Rect.unit (s := S3280) q z hq).emb x) _ ?_ ?_ ?_
  · rw [unit1_emb]; omega
  · rw [unit1_emb]; omega
  · refine (unit1_emb ho x).trans ?_; rw [unit1_emb]; omega

end Out

section Spelt

variable {d L} {tb : Buf (Elt F) (tbLoc d)} {id : Buf (Elt F) (idLoc d)} {t : S1024.Idx → Elt F .f32} {iv : S3280.Idx → BitVec 32}
  (ht : TabOK tb t) (hid : ∀ j : S100000.Idx, ((id : S100000.Idx → BitVec 32) j).toNat < 512)

include ht hid

/-- The same, spelt as the program spells its slices: the first 3120 entries. -/
theorem mu_out_head (hi : IdsOK id iv (k1_off1 L 0) 0 3120) (g : Buf (Elt F) (muLoc d)) (f : Buf (Elt F) ((vthr d L).loc cc1_scratch2))
    (hf : Filled t iv 0 0 3120 f) (w : S3120.Idx → Elt F .f32) (hw : w = (sM.slice (Rect.unit (s := S3280) ![0] S3120.size inb_S3280_S3120_0) (fun _ => rfl)).view.read (Elt F) f) :
    ((muHead L).view.loc (vthr d L) ↦[(muHead L).view.set]{fullShare} (muHead L).view.writes (Elt F) g [⟨Rect.whole S3120, w⟩] : sProp 𝕄)
      ⊢ muLoc d ↦[(muHead L).view.set]{fullShare} (gMu tb id : Buf (Elt F) (muLoc d)) :=
  mu_out (L := L) (o := k1_off1 L) (q := ![0]) (z := S3120.size) (k1_off1_inb L) inb_S3280_S3120_0 ht hi hid g f hf w hw

/-- The same, spelt as the program spells its slices: the last 160. -/
theorem mu_out_tail (hi : IdsOK id iv 99840 3120 160) (g : Buf (Elt F) (muLoc d)) (f : Buf (Elt F) ((vthr d L).loc cc1_scratch2))
    (hf : Filled t iv 0 3120 160 f) (w : S160.Idx → Elt F .f32) (hw : w = (sM.slice (Rect.unit (s := S3280) ![3120] S160.size inb_S3280_S160_3120) (fun _ => rfl)).view.read (Elt F) f) :
    (muTail.view.loc (vthr d L) ↦[muTail.view.set]{fullShare} muTail.view.writes (Elt F) g [⟨Rect.whole S160, w⟩] : sProp 𝕄)
      ⊢ muLoc d ↦[muTail.view.set]{fullShare} (gMu tb id : Buf (Elt F) (muLoc d)) :=
  mu_out (L := L) (o := ![99840]) (q := ![3120]) (z := S160.size) inb_S100000_S160_99840 inb_S3280_S160_3120 ht hi hid g f hf w hw

/-- The same, spelt as the program spells its slices: the first 3120 entries. -/
theorem rs_out_head (hi : IdsOK id iv (k1_off1 L 0) 0 3120) (g : Buf (Elt F) (rsLoc d)) (f : Buf (Elt F) ((vthr d L).loc cc1_scratch3))
    (hf : Filled t iv 512 0 3120 f) (w : S3120.Idx → Elt F .f32) (hw : w = (sR.slice (Rect.unit (s := S3280) ![0] S3120.size inb_S3280_S3120_0) (fun _ => rfl)).view.read (Elt F) f) :
    ((rsHead L).view.loc (vthr d L) ↦[(rsHead L).view.set]{fullShare} (rsHead L).view.writes (Elt F) g [⟨Rect.whole S3120, w⟩] : sProp 𝕄)
      ⊢ rsLoc d ↦[(rsHead L).view.set]{fullShare} (gRs tb id : Buf (Elt F) (rsLoc d)) :=
  rs_out (L := L) (o := k1_off1 L) (q := ![0]) (z := S3120.size) (k1_off1_inb L) inb_S3280_S3120_0 ht hi hid g f hf w hw

/-- The same, spelt as the program spells its slices: the last 160. -/
theorem rs_out_tail (hi : IdsOK id iv 99840 3120 160) (g : Buf (Elt F) (rsLoc d)) (f : Buf (Elt F) ((vthr d L).loc cc1_scratch3))
    (hf : Filled t iv 512 3120 160 f) (w : S160.Idx → Elt F .f32) (hw : w = (sR.slice (Rect.unit (s := S3280) ![3120] S160.size inb_S3280_S160_3120) (fun _ => rfl)).view.read (Elt F) f) :
    (rsTail.view.loc (vthr d L) ↦[rsTail.view.set]{fullShare} rsTail.view.writes (Elt F) g [⟨Rect.whole S160, w⟩] : sProp 𝕄)
      ⊢ rsLoc d ↦[rsTail.view.set]{fullShare} (gRs tb id : Buf (Elt F) (rsLoc d)) :=
  rs_out (L := L) (o := ![99840]) (q := ![3120]) (z := S160.size) inb_S100000_S160_99840 inb_S3280_S160_3120 ht hi hid g f hf w hw

end Spelt

theorem mem_head {i : S100000.Idx} : i ∈ (muHead L).view.set ↔ 3120 * num L ≤ (i 0).val ∧ (i 0).val < 3120 * num L + 3120 := by
  have e : (muHead L).view.set = (headR L).set := View.set_slice_whole _ _
  rw [e, Rect.mem_set_unit, Fin.forall_fin_one, k1_off1_eq]
  show 49920 * (L 0).val + 3120 * (L 1).val ≤ _ ∧ _ < 49920 * (L 0).val + 3120 * (L 1).val + 3120 ↔ _
  unfold num
  omega

theorem mem_tail {i : S100000.Idx} : i ∈ muTail.view.set ↔ 99840 ≤ (i 0).val := by
  have e : muTail.view.set = tailR.set := View.set_slice_whole _ _
  rw [e, Rect.mem_set_unit, Fin.forall_fin_one]
  show 99840 ≤ _ ∧ _ < 99840 + 160 ↔ _
  have : (i 0).val < 100000 := (i 0).isLt
  omega

theorem mem_rows' {i : S100000.Idx} : i ∈ rows (num L)
    ↔ (3120 * num L ≤ (i 0).val ∧ (i 0).val < 3120 * num L + 3120) ∨ (num L = 31 ∧ 99840 ≤ (i 0).val) := by
  rw [mem_rows]; unfold taskOf
  have h1 : (i 0).val < 100000 := (i 0).isLt
  have h2 := num_lt L
  omega

theorem head_sub {n : ℕ} (hn : n = num L) : (muHead L).view.set ⊆ rows n := by
  subst hn; intro i hi; exact (mem_rows' L).mpr (.inl ((mem_head L).mp hi))
theorem rows_eq_head {n : ℕ} (hn : n = num L) (h : ¬ k1_cond1 L = 1#1) : rows n = (muHead L).view.set := by
  subst hn; ext i
  exact (mem_rows' L).trans ((or_iff_left fun e => h ((cond_iff L).mpr e.1)).trans (mem_head L).symm)
theorem rows_sdiff {n : ℕ} (hn : n = num L) (h : k1_cond1 L = 1#1) : rows n \ (muHead L).view.set = muTail.view.set := by
  subst hn; ext i
  rw [Finset.mem_sdiff, mem_rows', mem_head, mem_tail, (cond_iff L).mp h]
  omega

theorem mu_join {n : Fin 32} (hn : n.val = num L) (h : k1_cond1 L = 1#1) (f : Buf (Elt F) (muLoc d)) :
    (iprop((muLoc d ↦[(muHead L).view.set]{fullShare} f) ∗ muLoc d ↦[muTail.view.set]{fullShare} f) : sProp 𝕄) ⊢ muLoc d ↦[rows n.val]{fullShare} f := by
  rw [show muTail.view.set = rows n.val \ (muHead L).view.set from (rows_sdiff L hn h).symm]
  exact (pointsTo_split_subset (Ix := HIx 1) (Name := ℕ) (U := UU) (ℓ := muLoc d) (q := fullShare) (f := f) (head_sub L hn)).2
theorem rs_join {n : Fin 32} (hn : n.val = num L) (h : k1_cond1 L = 1#1) (f : Buf (Elt F) (rsLoc d)) :
    (iprop((rsLoc d ↦[(rsHead L).view.set]{fullShare} f) ∗ rsLoc d ↦[rsTail.view.set]{fullShare} f) : sProp 𝕄) ⊢ rsLoc d ↦[rows n.val]{fullShare} f := by
  rw [show rsTail.view.set = rows n.val \ (muHead L).view.set from (rows_sdiff L hn h).symm]
  exact (pointsTo_split_subset (Ix := HIx 1) (Name := ℕ) (U := UU) (ℓ := rsLoc d) (q := fullShare) (f := f) (head_sub L hn)).2

theorem off1_zero : k1_off1 L 0 = 3120 * num L := by
  rw [k1_off1_eq]; show 49920 * (L 0).val + 3120 * (L 1).val = _; unfold num; omega

set_option maxHeartbeats 4000000 in
theorem tile_body (hF : (K (F := F)).Facts) (tb : Buf (Elt F) (tbLoc d)) (id : Buf (Elt F) (idLoc d))
    (hid : ∀ j : S100000.Idx, ((id : S100000.Idx → BitVec 32) j).toNat < 512) (n : Fin 32) (hn : n.val = num L)
    (O : CellTallies nD τ sig (HIx 1)) (W : Waits sig (HIx 1)) (hO : ∀ g, O g none = 0) :
    iprop(levAts (K (F := F)).L (K (F := F)).lev ∗ emp ∗ goAt d tb id n
        ∗ scopedBufs (vthr d L) ∗ scopedSems0 (vthr d L) ∗ owes (vthr d L) O W)
      ⊢ wp frame (wpE (defs₀ (F := F)) 𝒱₀ (vthr d L) none) Set.univ
          (cc1__sc_gather_body L tbV (Memref.isWhole_whole _) idV (Memref.isWhole_whole _) muV (Memref.isWhole_whole _) rsV (Memref.isWhole_whole _)
            sT (Memref.isWhole_whole _) sI (Memref.isWhole_whole _) sM (Memref.isWhole_whole _) sR (Memref.isWhole_whole _)
            cc1_scoped0 cc1_scoped1 cc1_scoped2 cc1_scoped3 cc1_scoped4 cc1_scoped5 cc1_scoped6)
          fun _ => iprop(tdAt d tb id n ∗ scopedBufs (vthr d L) ∗ scopedSems0 (vthr d L)
            ∗ ∃ W', ⌜∀ p ∈ W', p ∈ W ∨ p.2 = none⌝ ∗ owes (vthr d L) O W') := by
  simp only [cc1__sc_gather_body_eq_skeleton]; unfold cc1__sc_gather_body_skel
  simp only [k1_part2_eq_skeleton]; unfold k1_part2_skel
  simp only [k1_part1_eq_skeleton]; unfold k1_part1_skel
  simp only [Prog.bind_assoc]
  rw [(K (F := F)).scopedBufs_V hF d (cV L) (jV L), SparseCore.Cfg.scopedSems0_V (Val := Elt F) d (cV L) (jV L), ownSems0_V, ownBufs_V]
  unfold goAt tdAt
  iintro ⟨#Hlv, -, ⟨Htb, Hid, ⟨%fm, Hmu⟩, %fr, Hrs⟩, ⟨⟨%f0, HT⟩, ⟨%f1, HI⟩, ⟨%f2, HM⟩, ⟨%f3, HR⟩, Hbufs⟩,
    ⟨Hs0, Hs1, Hs2, Hs3, Hs4, Hs5, Hs6, Hsems⟩, HO⟩
  ihave Hmw := ((K (F := F)).mayWaits_none (thr := vthr d L) hO) $$ Hlv
  ihave Htb' := (show (tbLoc d ↦{tok n} tb : sProp 𝕄) ⊢ tbV.view.loc (vthr d L) ↦{tok n} tb from .rfl) $$ Htb
  ihave Hid' := (show (idLoc d ↦{tok n} id : sProp 𝕄) ⊢ idV.view.loc (vthr d L) ↦{tok n} id from .rfl) $$ Hid
  ihave HT' := (show ((vthr d L).loc cc1_scratch0 ↦{fullShare} f0 : sProp 𝕄) ⊢ sT.view.loc (vthr d L) ↦{fullShare} f0 from .rfl) $$ HT
  ihave HI' := (show ((vthr d L).loc cc1_scratch1 ↦{fullShare} f1 : sProp 𝕄) ⊢ sI.view.loc (vthr d L) ↦{fullShare} f1 from .rfl) $$ HI
  sl_exec
  ihave HT'' := (table_in (F := F) d L tb f0 (tile_body.sl.dma0 d tb) rfl) $$ HT'
  icases HT'' with ⟨%t, %ht, HT⟩
  ihave HI'' := (ids_in (F := F) d L id f1 (k1_off1_inb L) inb_S3280_S3120_0 (tile_body.sl.dma0_1 d L id) rfl) $$ HI'
  icases HI'' with ⟨%iv, %hiv, HI⟩
  have hb : k1_off1 L 0 + 3120 ≤ 100000 := k1_off1_inb L 0
  have hrg : Ranged iv 0 3120 := IdsOK.ranged hiv hb hid
  sl_for (fun k _ => tripInv d L t iv 0 (16 * k)) $$ [HT HI HM HR]
  case region =>
    intro k _
    exact trip1 d L t iv hrg k
  · unfold tripInv
    isplitl [HT]; · iexact HT
    isplitl [HI]; · iexact HI
    isplitl [HM]
    · iexists f2; isplitr; swap; · iexact HM
      ipureintro; intro j _ h; omega
    · iexists f3; isplitr; swap; · iexact HR
      ipureintro; intro j _ h; omega
  iintro %_ HI
  unfold tripInv
  icases HI with ⟨HT, HI, ⟨%f8, %h8, HM⟩, %f9, %h9, HR⟩
  ihave HM' := (show ((vthr d L).loc cc1_scratch2 ↦{fullShare} f8 : sProp 𝕄) ⊢ sM.view.loc (vthr d L) ↦{fullShare} f8 from .rfl) $$ HM
  ihave HR' := (show ((vthr d L).loc cc1_scratch3 ↦{fullShare} f9 : sProp 𝕄) ⊢ sR.view.loc (vthr d L) ↦{fullShare} f9 from .rfl) $$ HR
  by_cases k1_h1 : k1_cond1 L = 1#1
  swap
  · rw [rows_eq_head L hn k1_h1]
    ihave Hmu' := (show (muLoc d ↦[(muHead L).view.set]{fullShare} fm : sProp 𝕄) ⊢ (muHead L).view.loc (vthr d L) ↦[(muHead L).view.set]{fullShare} fm from .rfl) $$ Hmu
    ihave Hrs' := (show (rsLoc d ↦[(muHead L).view.set]{fullShare} fr : sProp 𝕄) ⊢ (rsHead L).view.loc (vthr d L) ↦[(rsHead L).view.set]{fullShare} fr from .rfl) $$ Hrs
    sl_exec
    sl_step
    ihave Hmu'' := (mu_out_head (F := F) (L := L) ht hid hiv fm f8 h8 (tile_body.sl.dma0_2 d L f8) rfl) $$ Hmu'
    ihave Hrs'' := (rs_out_head (F := F) (L := L) ht hid hiv fr f9 h9 (tile_body.sl.dma0_3 d L f9) rfl) $$ Hrs'
    isplitl [Htb' Hid' Hmu'' Hrs'']
    · isplitl [Htb']; · iexact Htb'
      isplitl [Hid']; · iexact Hid'
      isplitl [Hmu'']; · iexact Hmu''
      iexact Hrs''
    isplitl [HT HI HM' HR' Hbufs]
    · isplitl [HT]; · iexists _; iexact HT
      isplitl [HI]; · iexists _; iexact HI
      isplitl [HM']; · iexists _; iexact HM'
      isplitl [HR']; · iexists _; iexact HR'
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists _; isplitr; swap; · iexact HO
    ipureintro; intro p hp
    simp only [Finset.mem_insert] at hp
    rcases hp with rfl | rfl | rfl | rfl | hp
    · exact .inr rfl
    · exact .inr rfl
    · exact .inr rfl
    · exact .inr rfl
    · exact .inl hp
  · have hn31 : n.val = 31 := hn.trans ((cond_iff L).mp k1_h1)
    ihave Hmus := (pointsTo_split_subset (ℓ := muLoc d) (head_sub L hn)).1 $$ Hmu
    ihave Hrss := (pointsTo_split_subset (ℓ := rsLoc d) (head_sub L hn)).1 $$ Hrs
    rw [rows_sdiff L hn k1_h1]
    icases Hmus with ⟨Hmu, Hmt⟩
    icases Hrss with ⟨Hrs, Hrt⟩
    ihave Hmu' := (show (muLoc d ↦[(muHead L).view.set]{fullShare} fm : sProp 𝕄) ⊢ (muHead L).view.loc (vthr d L) ↦[(muHead L).view.set]{fullShare} fm from .rfl) $$ Hmu
    ihave Hrs' := (show (rsLoc d ↦[(muHead L).view.set]{fullShare} fr : sProp 𝕄) ⊢ (rsHead L).view.loc (vthr d L) ↦[(rsHead L).view.set]{fullShare} fr from .rfl) $$ Hrs
    ihave Hmt' := (show (muLoc d ↦[muTail.view.set]{fullShare} fm : sProp 𝕄) ⊢ muTail.view.loc (vthr d L) ↦[muTail.view.set]{fullShare} fm from .rfl) $$ Hmt
    ihave Hrt' := (show (rsLoc d ↦[muTail.view.set]{fullShare} fr : sProp 𝕄) ⊢ rsTail.view.loc (vthr d L) ↦[rsTail.view.set]{fullShare} fr from .rfl) $$ Hrt
    ihave HI' := (show ((vthr d L).loc cc1_scratch1 ↦{fullShare} iv : sProp 𝕄) ⊢ sI.view.loc (vthr d L) ↦{fullShare} iv from .rfl) $$ HI
    sl_exec
    ihave HI'' := (ids_in (F := F) d L id iv (o := ![99840]) (z := S160.size) inb_S100000_S160_99840 inb_S3280_S160_3120 (tile_body.sl.dma0_6 d id) rfl) $$ HI'
    icases HI'' with ⟨%iv', %hiv', HI⟩
    have hrg' : Ranged iv' 3120 160 := IdsOK.ranged hiv' (by decide) hid
    ihave HM := (show (sM.view.loc (vthr d L) ↦{fullShare} f8 : sProp 𝕄) ⊢ (vthr d L).loc cc1_scratch2 ↦{fullShare} f8 from .rfl) $$ HM'
    ihave HR := (show (sR.view.loc (vthr d L) ↦{fullShare} f9 : sProp 𝕄) ⊢ (vthr d L).loc cc1_scratch3 ↦{fullShare} f9 from .rfl) $$ HR'
    sl_for (fun k _ => tripInv d L t iv' 3120 (16 * k)) $$ [HT HI HM HR]
    case region =>
      intro k _
      exact trip2 d L t iv' hrg' k1_h1 k
    · unfold tripInv
      isplitl [HT]; · iexact HT
      isplitl [HI]; · iexact HI
      isplitl [HM]
      · iexists f8; isplitr; swap; · iexact HM
        ipureintro; intro j _ h; omega
      · iexists f9; isplitr; swap; · iexact HR
        ipureintro; intro j _ h; omega
    iintro %_ HI
    unfold tripInv
    icases HI with ⟨HT, HI, ⟨%g8, %e8, HM⟩, %g9, %e9, HR⟩
    ihave HM' := (show ((vthr d L).loc cc1_scratch2 ↦{fullShare} g8 : sProp 𝕄) ⊢ sM.view.loc (vthr d L) ↦{fullShare} g8 from .rfl) $$ HM
    ihave HR' := (show ((vthr d L).loc cc1_scratch3 ↦{fullShare} g9 : sProp 𝕄) ⊢ sR.view.loc (vthr d L) ↦{fullShare} g9 from .rfl) $$ HR
    sl_exec
    sl_step
    ihave Hmu'' := (mu_out_head (F := F) (L := L) ht hid hiv _ f8 h8 (tile_body.sl.dma0_4 d L f8) rfl) $$ Hmu'
    ihave Hrs'' := (rs_out_head (F := F) (L := L) ht hid hiv _ f9 h9 (tile_body.sl.dma0_5 d L f9) rfl) $$ Hrs'
    ihave Hmt'' := (mu_out_tail (F := F) (L := L) ht hid hiv' _ g8 e8 (tile_body.sl.dma0_7 d L g8) rfl) $$ Hmt'
    ihave Hrt'' := (rs_out_tail (F := F) (L := L) ht hid hiv' _ g9 e9 (tile_body.sl.dma0_8 d L g9) rfl) $$ Hrt'
    ihave Hmu := (mu_join d L hn k1_h1 (gMu tb id)) $$ [Hmu'' Hmt'']
    · isplitl [Hmu'']; · iexact Hmu''
      iexact Hmt''
    ihave Hrs := (rs_join d L hn k1_h1 (gRs tb id)) $$ [Hrs'' Hrt'']
    · isplitl [Hrs'']; · iexact Hrs''
      iexact Hrt''
    isplitl [Htb' Hid' Hmu Hrs]
    · isplitl [Htb']; · iexact Htb'
      isplitl [Hid']; · iexact Hid'
      isplitl [Hmu]; · iexact Hmu
      iexact Hrs
    isplitl [HT HI HM' HR' Hbufs]
    · isplitl [HT]; · iexists _; iexact HT
      isplitl [HI]; · iexists _; iexact HI
      isplitl [HM']; · iexists _; iexact HM'
      isplitl [HR']; · iexists _; iexact HR'
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists _; isplitr; swap; · iexact HO
    ipureintro; intro p hp
    simp only [Finset.mem_insert] at hp
    rcases hp with rfl | rfl | rfl | rfl | rfl | rfl | rfl | hp
    · exact .inr rfl
    · exact .inr rfl
    · exact .inr rfl
    · exact .inr rfl
    · exact .inr rfl
    · exact .inr rfl
    · exact .inr rfl
    · exact .inl hp

/-! ## The task's obligation to the launch -/

/-- The coordinates of a task from its SparseCore and its place. -/
def coordsV (c : Fin (grid1.bound 0)) (s : Fin (grid1.bound 1)) : grid1.Coords :=
  fun | 0 => c | 1 => s | ⟨_+2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => cc1__sc_gather_body (coordsV c s)
      tbV (Memref.isWhole_whole _) idV (Memref.isWhole_whole _) muV (Memref.isWhole_whole _) rsV (Memref.isWhole_whole _)
            sT (Memref.isWhole_whole _) sI (Memref.isWhole_whole _) sM (Memref.isWhole_whole _) sR (Memref.isWhole_whole _)
            cc1_scoped0 cc1_scoped1 cc1_scoped2 cc1_scoped3 cc1_scoped4 cc1_scoped5 cc1_scoped6) ⟨⟩ c s := rfl

/-- A wait recorded under no call's number is one the launch allows. -/
theorem obl_post {thr : Thread nD τ} {A B : sProp 𝕄} {O : CellTallies nD τ sig (HIx 1)} {W : Waits sig (HIx 1)} {q : HIx 1} :
    (iprop(A ∗ B ∗ scopedSems0 thr ∗ ∃ W', ⌜∀ p ∈ W', p ∈ W ∨ p.2 = none⌝ ∗ owes thr O W') : sProp 𝕄)
      ⊢ iprop(A ∗ B ∗ scopedSems0 thr ∗ ∃ W', ⌜∀ p ∈ W', p ∈ W ∨ p.2 = none ∨ p.2 = q⌝ ∗ owes thr O W') := by
  iintro ⟨HA, HB, HC, %W', %hW, HO⟩
  isplitl [HA]; · iexact HA
  isplitl [HB]; · iexact HB
  isplitl [HC]; · iexact HC
  iexists W'; isplitr; swap; · iexact HO
  ipureintro; intro p hp
  rcases hW p hp with h | h
  · exact .inl h
  · exact .inr (.inl h)

theorem tileObl (tb : (d : Dev nD) → Buf (Elt F) (tbLoc d)) (id : (d : Dev nD) → Buf (Elt F) (idLoc d))
    (hid : ∀ d (j : S100000.Idx), ((id d : S100000.Idx → BitVec 32) j).toNat < 512) : (K (F := F)).TileObl D 𝒱 (P tb id) v₀ 0 := by
  intro d c i O W hO _ _
  simp only [show (P (F := F) tb id).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg D (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  exact (tile_body d (coordsV ⟨_, hc.1⟩ ⟨_, hc.2⟩) facts (tb d) (id d) (hid d) _ (by
    show 16 * (c.val % 2) + i.val % 16 = 16 * c.val + i.val
    have h1 : c.val < 2 := c.isLt
    have h2 : i.val < 16 := i.isLt
    omega) O W hO).trans (wp_mono frame _ _ fun _ => obl_post)

end Cert.Proof.Seg

end
-- ==== Proof.Split.lean ====
/-
  The gather's arrays dealt to the two SparseCores' thirty-two tasks and collected from them: the table and the
  segment ids go out as read shares, the two results by the entries each task writes.
-/
module

public import proofs.«01_k».proof.Proof.Tile

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

/-- Thirty-two tasks are two SparseCores' sixteen. -/
theorem tasks_by_core (Φ : Fin 32 → sProp 𝕄) :
    bigSep Finset.univ Φ = bigSep (Finset.univ : Finset (Fin 2)) fun c => bigSep (Finset.univ : Finset (Fin 16)) fun i =>
      Φ (flat (c.val % 2) i.val (Nat.mod_lt _ (by decide)) i.isLt) := by
  have e : (Finset.univ : Finset (Fin 32)) = (Finset.univ ×ˢ Finset.univ : Finset (Fin 2 × Fin 16)).map
      ⟨fun p => flat (p.1.val % 2) p.2.val (Nat.mod_lt _ (by decide)) p.2.isLt, by decide⟩ := by decide
  rw [e, bigSep_map, SparseCore.bigSep_product]
  rfl

/-- A buffer held whole is held by the classes of its entries. -/
theorem by_classes {ℓ : Loc nD τ sig} (R : Fin 32 → Finset (Idx ℓ)) (hc : ∀ j, ∃ n, j ∈ R n) (hd : ∀ n n' j, j ∈ R n → j ∈ R n' → n = n')
    (f : Buf (Elt F) ℓ) : (ℓ ↦{fullShare} f : sProp 𝕄) = bigSep (Finset.univ : Finset (Fin 32)) fun n => ℓ ↦[R n]{fullShare} f := by
  classical
  rw [← pointsTo_biUnion Finset.univ R fun n _ n' _ h => Finset.disjoint_left.2 fun j hj hj' => h (hd n n' j hj hj')]
  refine congrArg (fun S : Finset (Idx ℓ) => (ℓ ↦[S]{fullShare} f : sProp 𝕄)) ?_
  ext j
  simp only [Finset.mem_biUnion, Finset.mem_univ, true_and, true_iff]
  exact hc j

theorem rows_cover (j : S100000.Idx) : ∃ n : Fin 32, j ∈ rows n.val :=
  ⟨⟨taskOf j, by unfold taskOf; omega⟩, mem_rows.2 rfl⟩

theorem rows_disjoint (n n' : Fin 32) (j : S100000.Idx) (h : j ∈ rows n.val) (h' : j ∈ rows n'.val) : n = n' :=
  Fin.ext ((mem_rows.1 h).symm.trans (mem_rows.1 h'))

theorem mu_rows (d : Dev nD) (f : Buf (Elt F) (muLoc d)) :
    (muLoc d ↦{fullShare} f : sProp 𝕄) = bigSep (Finset.univ : Finset (Fin 32)) fun n => muLoc d ↦[rows n.val]{fullShare} f :=
  by_classes (ℓ := muLoc d) (fun n => rows n.val) rows_cover rows_disjoint f

theorem rs_rows (d : Dev nD) (f : Buf (Elt F) (rsLoc d)) :
    (rsLoc d ↦{fullShare} f : sProp 𝕄) = bigSep (Finset.univ : Finset (Fin 32)) fun n => rsLoc d ↦[rows n.val]{fullShare} f :=
  by_classes (ℓ := rsLoc d) (fun n => rows n.val) rows_cover rows_disjoint f

variable (tb : (d : Dev nD) → Buf (Elt F) (tbLoc d)) (id : (d : Dev nD) → Buf (Elt F) (idLoc d))

/-- The shares that stay at home. -/
def kept (d : Dev nD) : sProp 𝕄 :=
  iprop((tbLoc d ↦{Transfers.shareDrop fullShare 32} tb d) ∗ idLoc d ↦{Transfers.shareDrop fullShare 32} id d)

theorem some_mu (d : Dev nD) (f : Buf (Elt F) (muLoc d)) :
    (bigSep (Finset.univ : Finset (Fin 32)) fun n => muLoc d ↦[rows n.val]{fullShare} f)
      ⊢ (bigSep (Finset.univ : Finset (Fin 32)) fun n => iprop(∃ f : Buf (Elt F) (muLoc d), muLoc d ↦[rows n.val]{fullShare} f) : sProp 𝕄) :=
  bigSep_mono fun n _ => exists_intro (Φ := fun f : Buf (Elt F) (muLoc d) => (muLoc d ↦[rows n.val]{fullShare} f : sProp 𝕄)) f

theorem some_rs (d : Dev nD) (f : Buf (Elt F) (rsLoc d)) :
    (bigSep (Finset.univ : Finset (Fin 32)) fun n => rsLoc d ↦[rows n.val]{fullShare} f)
      ⊢ (bigSep (Finset.univ : Finset (Fin 32)) fun n => iprop(∃ f : Buf (Elt F) (rsLoc d), rsLoc d ↦[rows n.val]{fullShare} f) : sProp 𝕄) :=
  bigSep_mono fun n _ => exists_intro (Φ := fun f : Buf (Elt F) (rsLoc d) => (rsLoc d ↦[rows n.val]{fullShare} f : sProp 𝕄)) f

theorem deal (d : Dev nD) (f : Buf (Elt F) (muLoc d)) (g : Buf (Elt F) (rsLoc d)) :
    iprop((tbLoc d ↦{fullShare} tb d) ∗ (idLoc d ↦{fullShare} id d) ∗ (muLoc d ↦{fullShare} f) ∗ rsLoc d ↦{fullShare} g)
      ⊢ (iprop(kept tb id d ∗ bigSep Finset.univ fun c : Fin ((K (F := F)).nCore 0) => (P tb id).st 0 d c) : sProp 𝕄) := by
  show _ ⊢ iprop(kept tb id d ∗ bigSep (Finset.univ : Finset (Fin 2)) fun c => bigSep Finset.univ fun i : Fin 16 =>
    goAt d (tb d) (id d) (flat (c.val % 2) i.val (Nat.mod_lt _ (by decide)) i.isLt))
  rw [← tasks_by_core (fun n => goAt d (tb d) (id d) n), mu_rows, rs_rows]
  unfold goAt kept
  rw [bigSep_sep', bigSep_sep', bigSep_sep']
  iintro ⟨Ht, Hi, Hm, Hr⟩
  ihave Ht := (Transfers.pointsTo_toks_split fullShare 32) $$ Ht
  ihave Hi := (Transfers.pointsTo_toks_split fullShare 32) $$ Hi
  icases Ht with ⟨Ht0, Ht⟩
  icases Hi with ⟨Hi0, Hi⟩
  isplitl [Ht0 Hi0]
  · isplitl [Ht0] <;> iassumption
  isplitl [Ht]; · iexact Ht
  isplitl [Hi]; · iexact Hi
  isplitl [Hm]
  · iapply (some_mu d f) $$ Hm
  · iapply (some_rs d g) $$ Hr

theorem collect (d : Dev nD) :
    (iprop(kept tb id d ∗ bigSep Finset.univ fun c : Fin ((K (F := F)).nCore 0) => (P tb id).dn 0 d c) : sProp 𝕄)
      ⊢ iprop((tbLoc d ↦{fullShare} tb d) ∗ (idLoc d ↦{fullShare} id d) ∗ (muLoc d ↦{fullShare} (gMu (tb d) (id d) : Buf (Elt F) (muLoc d)))
        ∗ rsLoc d ↦{fullShare} (gRs (tb d) (id d) : Buf (Elt F) (rsLoc d))) := by
  show iprop(kept tb id d ∗ bigSep (Finset.univ : Finset (Fin 2)) fun c => bigSep Finset.univ fun i : Fin 16 =>
    tdAt d (tb d) (id d) (flat (c.val % 2) i.val (Nat.mod_lt _ (by decide)) i.isLt)) ⊢ _
  rw [← tasks_by_core (fun n => tdAt d (tb d) (id d) n), mu_rows, rs_rows]
  unfold tdAt kept
  rw [bigSep_sep', bigSep_sep', bigSep_sep']
  iintro ⟨⟨Ht0, Hi0⟩, Ht, Hi, Hm, Hr⟩
  isplitl [Ht0 Ht]
  · iapply (Transfers.pointsTo_toks_join fullShare 32); isplitl [Ht0]; · iexact Ht0
    iexact Ht
  isplitl [Hi0 Hi]
  · iapply (Transfers.pointsTo_toks_join fullShare 32); isplitl [Hi0]; · iexact Hi0
    iexact Hi
  isplitl [Hm]; · iexact Hm
  iexact Hr

end Cert.Proof.Seg

end
-- ==== Proof.Bodies.lean ====
/-
  The two TensorCore kernels' bodies, run once at symbolic staging buffers: what each leaves as a function of the
  blocks it finds. The stats kernel's first point sets the two accumulators, every later one adds its block's sums, and
  the last writes the table.
-/
module

public import proofs.«01_k».proof.Proof.Setup
public import Idealize.ShloMosaic.Lib.VecWindow

@[expose] public section

noncomputable section

namespace Cert.Proof.Seg

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (c : Dev nD)

/-- The only entry of a one-entry vector. -/
abbrev one0 : S1.Idx := fun a => ⟨0, by obtain rfl : a = 0 := Subsingleton.elim (α := Fin 1) a 0; exact Nat.one_pos⟩

theorem norm_body (i : grid2.Coords) (M1 : Memref sig .tc .vmem S2000x128 .f32) (h1 : M1.IsWhole) (M2 : Memref sig .tc .vmem S1x1x2000 .f32) (h2 : M2.IsWhole)
    (M3 : Memref sig .tc .vmem S1x1x2000 .f32) (h3 : M3.IsWhole) (M4 : Memref sig .tc .smem S1 .f32) (h4 : M4.IsWhole)
    (M5 : Memref sig .tc .smem S1 .f32) (h5 : M5.IsWhole) (M6 : Memref sig .tc .vmem S2000x128 .f32) (h6 : M6.IsWhole)
    (x : S2000x128.Idx → Elt F .f32) (mu rs : S1x1x2000.Idx → Elt F .f32) (w b : S1.Idx → Elt F .f32) (y : S2000x128.Idx → Elt F .f32) (E : Set ℕ)
    (Q : PUnit → sProp 𝕄) :
    iprop(owns (c : Thread nD τ) M1 fullShare x ∗ owns (c : Thread nD τ) M2 fullShare mu ∗ owns (c : Thread nD τ) M3 fullShare rs
        ∗ owns (c : Thread nD τ) M4 fullShare w ∗ owns (c : Thread nD τ) M5 fullShare b ∗ owns (c : Thread nD τ) M6 fullShare y
        ∗ ((owns (c : Thread nD τ) M1 fullShare x ∗ owns (c : Thread nD τ) M2 fullShare mu ∗ owns (c : Thread nD τ) M3 fullShare rs
        ∗ owns (c : Thread nD τ) M4 fullShare w ∗ owns (c : Thread nD τ) M5 fullShare b
        ∗ owns (c : Thread nD τ) M6 fullShare (k2_pay1 x mu rs (w one0) (b one0))) -∗ Q ⟨⟩))
      ⊢ wp frame (wpE (defs₀ (F := F)) 𝒱₀ c none) E (cc2__norm_kernel i M1 h1 M2 h2 M3 h3 M4 h4 M5 h5 M6 h6) Q := by
  simp only [cc2__norm_kernel_eq_skeleton]; unfold cc2__norm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  iexists _; isplitr; swap; (· iexact H6); ipureintro
  refine (View.read_writes_full M6.view f6 _ _ []).trans ?_
  rw [View.readAt_full, View.readAt_full, View.readAt_full, e1, e2, e3]
  unfold norm_body.sl.r norm_body.sl.r_1
  rw [View.readAt_full, View.readAt_full, e4, e5]
  have e : ∀ j : S1.Idx, j = one0 := fun j => by
    funext a
    obtain rfl : a = 0 := Subsingleton.elim (α := Fin 1) a 0
    exact Fin.ext (by have : (j 0).val < 1 := (j 0).isLt; show (j 0).val = 0; omega)
  exact congrArg₂ (fun p q => k2_pay1 x mu rs (w p) (b q)) (e _) (e _)

/-! ## The stats kernel -/

/-- The first point's condition and the later points'. -/
abbrev isFirst (i : grid0.Coords) : Prop := Scalar.cmpi .ne (Scalar.extui (Scalar.cmpi .eq (BitVec.ofNat 32 (i 0).val) 0#32)) 0#32 = 1#1
abbrev isLater (i : grid0.Coords) : Prop := Scalar.cmpi .ne (Scalar.extui (Scalar.cmpi .sgt (BitVec.ofNat 32 (i 0).val) 0#32)) 0#32 = 1#1

theorem stats_first (i : grid0.Coords) (hf : isFirst i) (hl : ¬ isLater i) (hz : ¬ k0_cond3 i = 1#1)
    (M1 : Memref sig .tc .vmem S2000x128 .f32) (h1 : M1.IsWhole) (M2 : Memref sig .tc .vmem S1x1x2000 .i32) (h2 : M2.IsWhole)
    (M3 : Memref sig .tc .vmem S8x512 .f32) (h3 : M3.IsWhole) (M4 : Memref sig .tc .vmem S512x256 .f32) (h4 : M4.IsWhole)
    (M5 : Memref sig .tc .vmem S512x8 .f32) (h5 : M5.IsWhole)
    (x : S2000x128.Idx → Elt F .f32) (g : S1x1x2000.Idx → Elt F .i32) (y : S8x512.Idx → Elt F .f32) (A : S512x256.Idx → Elt F .f32) (C : S512x8.Idx → Elt F .f32)
    (E : Set ℕ) (Q : PUnit → sProp 𝕄) :
    iprop(owns (c : Thread nD τ) M1 fullShare x ∗ owns (c : Thread nD τ) M2 fullShare g ∗ owns (c : Thread nD τ) M3 fullShare y
        ∗ owns (c : Thread nD τ) M4 fullShare A ∗ owns (c : Thread nD τ) M5 fullShare C
        ∗ ((owns (c : Thread nD τ) M1 fullShare x ∗ owns (c : Thread nD τ) M2 fullShare g ∗ owns (c : Thread nD τ) M3 fullShare y
        ∗ owns (c : Thread nD τ) M4 fullShare (k0_pay4 x g) ∗ owns (c : Thread nD τ) M5 fullShare (k0_pay5 g)) -∗ Q ⟨⟩))
      ⊢ wp frame (wpE (defs₀ (F := F)) 𝒱₀ c none) E (cc0__stats_kernel i M1 h1 M2 h2 M3 h3 M4 h4 M5 h5) Q := by
  simp only [cc0__stats_kernel_eq_skeleton]; unfold cc0__stats_kernel_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists _; isplitr; swap; (· iexact H4); ipureintro
    refine (View.read_writes_full M4.view f4 _ _ _).trans ?_
    rw [View.readAt_full, View.readAt_full, e1, e2]
  · iexists _; isplitr; swap; (· iexact H5); ipureintro
    refine (View.read_writes_full M5.view f5 _ _ _).trans ?_
    rw [View.readAt_full, e2]

theorem stats_mid (i : grid0.Coords) (hf : ¬ isFirst i) (hl : isLater i) (hz : ¬ k0_cond3 i = 1#1)
    (M1 : Memref sig .tc .vmem S2000x128 .f32) (h1 : M1.IsWhole) (M2 : Memref sig .tc .vmem S1x1x2000 .i32) (h2 : M2.IsWhole)
    (M3 : Memref sig .tc .vmem S8x512 .f32) (h3 : M3.IsWhole) (M4 : Memref sig .tc .vmem S512x256 .f32) (h4 : M4.IsWhole)
    (M5 : Memref sig .tc .vmem S512x8 .f32) (h5 : M5.IsWhole)
    (x : S2000x128.Idx → Elt F .f32) (g : S1x1x2000.Idx → Elt F .i32) (y : S8x512.Idx → Elt F .f32) (A : S512x256.Idx → Elt F .f32) (C : S512x8.Idx → Elt F .f32)
    (E : Set ℕ) (Q : PUnit → sProp 𝕄) :
    iprop(owns (c : Thread nD τ) M1 fullShare x ∗ owns (c : Thread nD τ) M2 fullShare g ∗ owns (c : Thread nD τ) M3 fullShare y
        ∗ owns (c : Thread nD τ) M4 fullShare A ∗ owns (c : Thread nD τ) M5 fullShare C
        ∗ ((owns (c : Thread nD τ) M1 fullShare x ∗ owns (c : Thread nD τ) M2 fullShare g ∗ owns (c : Thread nD τ) M3 fullShare y
        ∗ owns (c : Thread nD τ) M4 fullShare (k0_pay6 x g A) ∗ owns (c : Thread nD τ) M5 fullShare (k0_pay7 g C)) -∗ Q ⟨⟩))
      ⊢ wp frame (wpE (defs₀ (F := F)) 𝒱₀ c none) E (cc0__stats_kernel i M1 h1 M2 h2 M3 h3 M4 h4 M5 h5) Q := by
  simp only [cc0__stats_kernel_eq_skeleton]; unfold cc0__stats_kernel_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists _; isplitr; swap; (· iexact H4); ipureintro
    refine (View.read_writes_full M4.view f4 _ _ _).trans ?_
    rw [View.readAt_full, View.readAt_full, View.readAt_full, e1, e2, e4]
  · iexists _; isplitr; swap; (· iexact H5); ipureintro
    refine (View.read_writes_full M5.view f5 _ _ _).trans ?_
    rw [View.readAt_full, View.readAt_full, e2, e5]

/-- The accumulators' parts the last point reads: the sums' columns, the squares' columns, the counts' first column. -/
abbrev sumCols (A : S512x256.Idx → Elt F .f32) : S512x128.Idx → Elt F .f32 := VecWindow.window A ![0, 0] S512x128.size inb_S512x256_S512x128_0_0
abbrev sqCols (A : S512x256.Idx → Elt F .f32) : S512x128.Idx → Elt F .f32 := VecWindow.window A ![0, 128] S512x128.size inb_S512x256_S512x128_0_128
abbrev cntCol (C : S512x8.Idx → Elt F .f32) : S512x1.Idx → Elt F .f32 := VecWindow.window C ![0, 0] S512x1.size inb_S512x8_S512x1_0_0
/-- The table from the accumulators. -/
abbrev tableOf (A : S512x256.Idx → Elt F .f32) (C : S512x8.Idx → Elt F .f32) : S8x512.Idx → Elt F .f32 := k0_pay8 (sumCols A) (sqCols A) (cntCol C)

theorem stats_last (i : grid0.Coords) (hf : ¬ isFirst i) (hl : isLater i) (hz : k0_cond3 i = 1#1)
    (M1 : Memref sig .tc .vmem S2000x128 .f32) (h1 : M1.IsWhole) (M2 : Memref sig .tc .vmem S1x1x2000 .i32) (h2 : M2.IsWhole)
    (M3 : Memref sig .tc .vmem S8x512 .f32) (h3 : M3.IsWhole) (M4 : Memref sig .tc .vmem S512x256 .f32) (h4 : M4.IsWhole)
    (M5 : Memref sig .tc .vmem S512x8 .f32) (h5 : M5.IsWhole)
    (x : S2000x128.Idx → Elt F .f32) (g : S1x1x2000.Idx → Elt F .i32) (y : S8x512.Idx → Elt F .f32) (A : S512x256.Idx → Elt F .f32) (C : S512x8.Idx → Elt F .f32)
    (E : Set ℕ) (Q : PUnit → sProp 𝕄) :
    iprop(owns (c : Thread nD τ) M1 fullShare x ∗ owns (c : Thread nD τ) M2 fullShare g ∗ owns (c : Thread nD τ) M3 fullShare y
        ∗ owns (c : Thread nD τ) M4 fullShare A ∗ owns (c : Thread nD τ) M5 fullShare C
        ∗ ((owns (c : Thread nD τ) M1 fullShare x ∗ owns (c : Thread nD τ) M2 fullShare g
        ∗ owns (c : Thread nD τ) M3 fullShare (tableOf (k0_pay6 x g A) (k0_pay7 g C))
        ∗ owns (c : Thread nD τ) M4 fullShare (k0_pay6 x g A) ∗ owns (c : Thread nD τ) M5 fullShare (k0_pay7 g C)) -∗ Q ⟨⟩))
      ⊢ wp frame (wpE (defs₀ (F := F)) 𝒱₀ c none) E (cc0__stats_kernel i M1 h1 M2 h2 M3 h3 M4 h4 M5 h5) Q := by
  simp only [cc0__stats_kernel_eq_skeleton]; unfold cc0__stats_kernel_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]
  · iexists _; isplitr; swap; (· iexact H3); ipureintro
    refine (View.read_writes_full M3.view f3 _ _ _).trans ?_
    have eA : stats_last.sl.v25 c M1 M2 M4 f1 f2 f4 = sumCols (k0_pay6 x g A) := by
      unfold stats_last.sl.v25 stats_last.sl.H4_1
      refine (View.readAt_unit _ _ _ rfl inb_S512x256_S512x128_0_0).trans ?_
      rw [View.read_writes_full, View.readAt_full, View.readAt_full, View.readAt_full, e1, e2, e4]
    have eB : stats_last.sl.v28 c M1 M2 M4 f1 f2 f4 = sqCols (k0_pay6 x g A) := by
      unfold stats_last.sl.v28 stats_last.sl.H4_1
      refine (View.readAt_unit _ _ _ rfl inb_S512x256_S512x128_0_128).trans ?_
      rw [View.read_writes_full, View.readAt_full, View.readAt_full, View.readAt_full, e1, e2, e4]
    have eC : stats_last.sl.v31 c M2 M5 f2 f5 = cntCol (k0_pay7 g C) := by
      unfold stats_last.sl.v31 stats_last.sl.H5_1
      refine (View.readAt_unit _ _ _ rfl inb_S512x8_S512x1_0_0).trans ?_
      rw [View.read_writes_full, View.readAt_full, View.readAt_full, e2, e5]
    rw [eA, eB, eC]
  isplitl [H4]
  · iexists _; isplitr; swap; (· iexact H4); ipureintro
    refine (View.read_writes_full M4.view f4 _ _ _).trans ?_
    rw [View.readAt_full, View.readAt_full, View.readAt_full, e1, e2, e4]
  · iexists _; isplitr; swap; (· iexact H5); ipureintro
    refine (View.read_writes_full M5.view f5 _ _ _).trans ?_
    rw [View.readAt_full, View.readAt_full, e2, e5]

end Cert.Proof.Seg

end
-- ==== Proof.Region.lean ====
/-
  A TensorCore kernel's region of @main beside the SparseCore call: entered from the windows' arrays held at a
  valuation and from what the core owes before call `n`, with its recorded waits at or below that call's levels, and
  left with the arrays at the kernel's final contents and the same bound. The regions' own waits sit at level zero.
-/
module

public import proofs.«01_k».proof.Proof.Setup

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window RegionSeg arrRefs PLaunchFacts BodyObligation)

variable {F : FTy → Type} [FloatOps F]

local notation "𝕄" => MT nD τ sig (HIx 1) (Elt F) ℕ UU ℕ

/-- No pipeline prefetches a table: the only tables there are. -/
abbrev adm : (p : Fin 2) → (pcfgs (F := F) p).Adm := fun q => (cfgs q).toPCfg_adm

/-- The waits recorded before call `n`, at or below its levels. -/
def below (c : Dev nD) (n : ℕ) : Set (SemLoc sig × HIx 1) := {p | (K (F := F)).lev (T c, p.1) p.2 ≤ 8 * n}

/-- What the core owes before call `n`, its recorded waits bounded. -/
def owing (c : Dev nD) (n : ℕ) : sProp 𝕄 :=
  iprop(∃ Wd, ⌜(K (F := F)).WBelow (T c) Wd (8 * n)⌝ ∗ owes (T c) ((K (F := F)).Otc c n) Wd)

variable (pdats : (p : Fin 2) → (c : Dev nD) → Dat τ (Elt F) (HIx 1) ℕ UU ℕ (Pipeline.pin (pcfgs (F := F)) adm p) c)

/-- Pipeline `p`'s region between calls. -/
def region (p : Fin 2) (n : ℕ) (kit : PLaunchFacts (nD := nD) (τ := τ) (pcfgs (F := F)) p) (hK : (pcfgs (F := F) p).pre.K = 0)
    (hbody : ∀ c, BodyObligation (pdats p c) defs₀ 𝒱₀ none Set.univ)
    (howed : ∀ c t, (pdats p c).owed t = (K (F := F)).Otc c n)
    (hrec : ∀ c t, (pdats p c).recorded t = below (F := F) c n)
    (hshare : ∀ c w, (pdats p c).share w = fullShare)
    (hin : ∀ c, (Pipeline.scopedRest (Pipeline.pin (pcfgs (F := F)) adm p).spec c : sProp 𝕄) ⊢ (pdats p c).Φ 0)
    (hout : ∀ c, (pdats p c).Φ (Fin.last (Pipeline.pin (pcfgs (F := F)) adm p).N)
      ⊢ (Pipeline.scopedRest (Pipeline.pin (pcfgs (F := F)) adm p).spec c : sProp 𝕄))
    (W W' : Dev nD → Valuation τ sig (Elt F))
    (hW : ∀ c w, (pdats p c).arrAt w 0 = W c (Proc.devRef .tc (Pipeline.arrRef (Pipeline.pin (pcfgs (F := F)) adm p).spec w)))
    (hW' : ∀ c w, (pdats p c).arrAt w (Pipeline.pin (pcfgs (F := F)) adm p).N
      = W' c (Proc.devRef .tc (Pipeline.arrRef (Pipeline.pin (pcfgs (F := F)) adm p).spec w))) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_of_cut (Pipeline.pin (pcfgs (F := F)) adm) pdats none p c 0 ((K (F := F)).Otc c n) (howed c)
    (fun _ _ => Finset.mem_univ _) (fun _ _ => le_rfl) (fun g i h => ⟨Finset.mem_univ _, by
      have := SparseCore.Cfg.lev_of_Otc_pos (K := K (F := F)) h; omega⟩)
  pre c := iprop(StableHlo.held (c.tc : Thread nD τ) (arrRefs (pcfgs (F := F) p).spec) (W c) ∗ owing c n)
  post c := iprop(StableHlo.held (c.tc : Thread nD τ) (arrRefs (pcfgs (F := F) p).spec) (W' c) ∗ owing c n)
  X _ := BI.emp
  Y _ := BI.emp
  Z _ := BI.emp
  hentry c := by
    rw [Pipeline.ownSems0_none, Pipeline.prefHeld_of_none _ hK,
      ← Pipeline.arrays_held (pcfgs (F := F)) adm pdats p kit c (hshare c) ((pdats p c).arrAt · 0) (W c) (hW c)]
    iintro ⟨⟨Ha, HO⟩, -, -⟩
    imodintro
    isplitl [Ha]; · iexact Ha
    isplitr; · iempintro
    isplitl [HO]
    · unfold Pipeline.Dat.owesAt Pipeline.owesWithin Pipeline.Dat.bound owing
      rw [howed c 0, hrec c 0]
      icases HO with ⟨%Wd, %hWd, HO⟩; iexists Wd; isplitr
      · ipureintro; exact fun q hq => Or.inl (hWd q hq)
      iexact HO
    isplitr <;> iempintro
  hin c := by
    refine BIBase.Entails.trans ?_ (hin c)
    iintro ⟨-, -, Hr⟩; iexact Hr
  hout c := (hout c).trans (by
    rw [Pipeline.ownSems0_none]
    iintro Hr
    isplitr; · iempintro
    isplitr; · iempintro
    iexact Hr)
  hexit c := by
    rw [← Pipeline.arrays_held (pcfgs (F := F)) adm pdats p kit c (hshare c) ((pdats p c).arrAt · (Pipeline.pin (pcfgs (F := F)) adm p).N) (W' c) (hW' c)]
    iintro ⟨Ha, HO, -, -⟩
    imodintro
    isplitl [Ha]; · iexact Ha
    unfold Pipeline.Dat.owesAt Pipeline.owesWithin Pipeline.Dat.bound owing
    rw [howed c (Fin.last _), hrec c (Fin.last _)]
    icases HO with ⟨%Wd, %hWd, HO⟩; iexists Wd; isplitr
    · ipureintro
      intro q hq
      rcases hWd hq with h | ⟨w, s, rfl⟩
      · exact h
      · exact Nat.zero_le _
    iexact HO

end Cert.Proof.Seg

end
-- ==== Proof.StatsRegion.lean ====
/-
  The stats kernel's region: block by block the accumulators hold the running sums, and the table is written once, at
  the last point, from the sums over all fifty blocks.
-/
module

public import proofs.«01_k».proof.Proof.Bodies
public import proofs.«01_k».proof.Proof.Region
public import Idealize.ShloMosaic.Lib.Pipeline.ValueKit

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window RegionSeg arrRefs PLaunchFacts BodyObligation)

variable {F : FTy → Type} [FloatOps F]

local notation "𝕄" => MT nD τ sig (HIx 1) (Elt F) ℕ UU ℕ

/-! ## Blocks and running sums -/

/-- Row `r`, column `k` of the input. -/
def rowIx (r k : ℕ) : S100000x128.Idx
  | ⟨0, _⟩ => ⟨r % 100000, Nat.mod_lt _ (by decide)⟩
  | ⟨1, _⟩ => ⟨k % 128, Nat.mod_lt _ (by decide)⟩

/-- Entry `k` of block `n` of a per-row array laid out as fifty blocks of two thousand. -/
def blkIx (n k : ℕ) : S50x1x2000.Idx
  | ⟨0, _⟩ => ⟨n % 50, Nat.mod_lt _ (by decide)⟩
  | ⟨1, _⟩ => ⟨0, Nat.one_pos⟩
  | ⟨2, _⟩ => ⟨k % 2000, Nat.mod_lt _ (by decide)⟩

/-- Block `n` of the input: rows `2000 n` to `2000 n + 1999`. -/
def rowsB {e : EltTy} (x : S100000x128.Idx → Elt F e) (n : ℕ) : S2000x128.Idx → Elt F e :=
  fun j => x (rowIx (2000 * n + (j 0).val) (j 1).val)
/-- Block `n` of a per-row array. -/
def perB {e : EltTy} (g : S50x1x2000.Idx → Elt F e) (n : ℕ) : S1x1x2000.Idx → Elt F e :=
  fun j => g (blkIx n (j 2).val)

/-- The sums and sums of squares after block `n`. -/
def accAt (x : S100000x128.Idx → Elt F .f32) (g : S50x1x2000.Idx → Elt F .i32) : ℕ → S512x256.Idx → Elt F .f32
  | 0 => k0_pay4 (rowsB x 0) (perB g 0)
  | n + 1 => k0_pay6 (rowsB x (n + 1)) (perB g (n + 1)) (accAt x g n)
/-- The counts after block `n`. -/
def cntAt (g : S50x1x2000.Idx → Elt F .i32) : ℕ → S512x8.Idx → Elt F .f32
  | 0 => k0_pay5 (perB g 0)
  | n + 1 => k0_pay7 (perB g (n + 1)) (cntAt g n)

/-- The table the stats kernel writes. -/
def table (x : S100000x128.Idx → Elt F .f32) (g : S50x1x2000.Idx → Elt F .i32) : S8x512.Idx → Elt F .f32 :=
  tableOf (accAt x g 49) (cntAt g 49)

/-! ## The proof data, from an entry valuation -/

variable (W : Dev nD → Valuation τ sig (Elt F))

abbrev xOf (c : Dev nD) : S100000x128.Idx → Elt F .f32 := W c (Proc.devRef .tc main_arg0)
abbrev gOf (c : Dev nD) : S50x1x2000.Idx → Elt F .i32 := W c (Proc.devRef .tc main_v0)

/-- A scoped buffer at some contents. -/
abbrev some0 (c : Dev nD) (b : Ref sig .tc) : sProp 𝕄 := iprop(∃ f : Buf (Elt F) ((c : Thread nD τ).loc b), ((c : Thread nD τ).loc b) ↦{fullShare} f)

/-- The norm kernel's staging buffers. -/
def stgRest (c : Dev nD) : sProp 𝕄 :=
  iprop(some0 c cc2_stg0_0 ∗ some0 c cc2_stg0_1 ∗ some0 c cc2_stg1_0 ∗ some0 c cc2_stg1_1 ∗ some0 c cc2_stg2_0 ∗ some0 c cc2_stg2_1
    ∗ some0 c cc2_stg5_0 ∗ some0 c cc2_stg5_1 ∗ some0 c cc2_stg3_0 ∗ some0 c cc2_stg4_0)

/-- Between points: the accumulators hold the sums so far (anything before the first point). -/
def statsΦ (c : Dev nD) : ℕ → sProp 𝕄
  | 0 => iprop(some0 c cc0_scratch0 ∗ some0 c cc0_scratch1 ∗ stgRest c)
  | n + 1 => iprop(owns (c : Thread nD τ) (Memref.whole cc0_scratch0) fullShare (accAt (xOf W c) (gOf W c) n)
      ∗ owns (c : Thread nD τ) (Memref.whole cc0_scratch1) fullShare (cntAt (gOf W c) n) ∗ stgRest c)

/-- The stats kernel's proof data. -/
def dat0 (c : Dev nD) : Dat τ (Elt F) (HIx 1) ℕ UU ℕ cfg0 c where
  A w := W c (Proc.devRef .tc (Pipeline.arrRef spec0 w))
  after w t := match w with
    | ⟨0, _⟩ => rowsB (xOf W c) t.val
    | ⟨1, _⟩ => perB (gOf W c) t.val
    | ⟨2, _⟩ => tableOf (accAt (xOf W c) (gOf W c) t.val) (cntAt (gOf W c) t.val)
  Φ t := statsΦ W c t.val
  q _ := fullShare
  owed _ := (K (F := F)).Otc c 0
  recorded _ := below (F := F) c 0

theorem index0_0 : ∀ t : Fin cfg0.N, win0_0.index t = ![t.val, 0] := (by decide +kernel : ∀ t : Fin grid0.N, _)
theorem index0_1 : ∀ t : Fin cfg0.N, win0_1.index t = ![t.val, 0, 0] := (by decide +kernel : ∀ t : Fin grid0.N, _)

theorem before0_0 (c : Dev nD) (t : Fin cfg0.N) (d) : (dat0 W c).before 0 t d = rowsB (xOf W c) t.val := by
  rw [(dat0 W c).before_fetched 0 t (fetch0_0 t) d]
  unfold Dat.fetched Dat.blockOf; dsimp only [dat0]
  funext y
  show W c (Proc.devRef .tc main_arg0) ((win0_0.blk t).view.emb y) = _
  refine congrArg (W c (Proc.devRef .tc main_arg0)) ?_
  have ht : t.val < 50 := t.isLt
  have h0 : (y 0).val < 2000 := (y 0).isLt
  have h1 : (y 1).val < 128 := (y 1).isLt
  have e := index0_0 t
  funext a
  apply Fin.ext
  blk_simp [e]
  fin_cases a
  · show t.val * 2000 + (y 0).val = (2000 * t.val + (y 0).val) % 100000; omega
  · show 0 * 128 + (y 1).val = (y 1).val % 128; omega

theorem before0_1 (c : Dev nD) (t : Fin cfg0.N) (d) : (dat0 W c).before 1 t d = perB (gOf W c) t.val := by
  rw [(dat0 W c).before_fetched 1 t (fetch0_1 t) d]
  unfold Dat.fetched Dat.blockOf; dsimp only [dat0]
  funext y
  show W c (Proc.devRef .tc main_v0) ((win0_1.blk t).view.emb y) = _
  refine congrArg (W c (Proc.devRef .tc main_v0)) ?_
  have ht : t.val < 50 := t.isLt
  have h0 : (y 0).val < 1 := (y 0).isLt
  have h1 : (y 1).val < 1 := (y 1).isLt
  have h2 : (y 2).val < 2000 := (y 2).isLt
  have e := index0_1 t
  funext a
  apply Fin.ext
  blk_simp [e]
  fin_cases a
  · show t.val * 1 + (y 0).val = t.val % 50; omega
  · show 0 * 1 + (y 1).val = 0; omega
  · show 0 * 2000 + (y 2).val = (y 2).val % 2000; omega

theorem conds : ∀ t : Fin grid0.N, (t.val = 0 → isFirst (grid0.coords t) ∧ ¬ isLater (grid0.coords t)) ∧ (t.val ≠ 0 → ¬ isFirst (grid0.coords t) ∧ isLater (grid0.coords t))
    ∧ (t.val = 49 ↔ k0_cond3 (grid0.coords t) = 1#1) := by decide +kernel

/-- What the obligation asks of the table's buffer. -/
abbrev leaves0 (c : Dev nD) (t : Fin cfg0.N) : sProp 𝕄 :=
  match cfg0.idle 2 (cfg0.grid.coords t) with
  | true =>
    match (cfg0.win 2).flush t with
    | false => iprop(∃ d, owns (c : Thread nD τ) (st0_2 t) fullShare ((dat0 W c).before 2 t d))
    | true => owns (c : Thread nD τ) (st0_2 t) fullShare ((dat0 W c).after 2 t)
  | false => owns (c : Thread nD τ) (st0_2 t) fullShare ((dat0 W c).after 2 t)

theorem leaves0_idle (c : Dev nD) (t : Fin cfg0.N) (h : t.val ≠ 49) (d) :
    owns (c : Thread nD τ) (st0_2 t) fullShare ((dat0 W c).before 2 t d) ⊢ leaves0 W c t := by
  have ht : t.val < 50 := t.isLt
  have hi : cfg0.idle 2 (cfg0.grid.coords t) = true := by
    show (!(k0_cond3 (grid0.coords t) == 1#1)) = true
    have := mt (conds t).2.2.mpr h
    simp [this]
  have hf : (cfg0.win 2).flush t = false := by
    rw [← Bool.not_eq_true, flush0_2 t]; omega
  unfold leaves0
  rw [hi]; dsimp only; rw [hf]; dsimp only
  iintro H; iexists d; iexact H

theorem leaves0_last (c : Dev nD) (t : Fin cfg0.N) (h : t.val = 49) :
    owns (c : Thread nD τ) (st0_2 t) fullShare ((dat0 W c).after 2 t) ⊢ leaves0 W c t := by
  have hi : cfg0.idle 2 (cfg0.grid.coords t) = false := by
    show (!(k0_cond3 (grid0.coords t) == 1#1)) = false
    have := (conds t).2.2.mp h
    simp [this]
  unfold leaves0
  rw [hi]

/-- The body at point `t`: the accumulators take on the block's sums, the table's buffer is written at the last point. -/
theorem body0_step (c : Dev nD) (t : Fin cfg0.N) (O : sProp 𝕄) :
    iprop(statsΦ W c t.val ∗ O ∗ (∃ d, owns (c : Thread nD τ) (st0_0 t) fullShare ((dat0 W c).before 0 t d))
        ∗ (∃ d, owns (c : Thread nD τ) (st0_1 t) fullShare ((dat0 W c).before 1 t d))
        ∗ (∃ d, owns (c : Thread nD τ) (st0_2 t) fullShare ((dat0 W c).before 2 t d)))
      ⊢ wp frame (wpE (defs₀ (F := F)) 𝒱₀ c none) Set.univ (bodyAt0 t) fun _ =>
        iprop(statsΦ W c (t.val + 1) ∗ O ∗ owns (c : Thread nD τ) (st0_0 t) fullShare (rowsB (xOf W c) t.val)
          ∗ owns (c : Thread nD τ) (st0_1 t) fullShare (perB (gOf W c) t.val) ∗ leaves0 W c t) := by
  have ht : t.val < 50 := t.isLt
  obtain ⟨hfst, hltr, hlast⟩ := conds t
  have lv0 := leaves0_idle W c t
  have lv1 := leaves0_last W c t
  have b0 := before0_0 W c t
  have b1 := before0_1 W c t
  have e2 : (dat0 W c).after 2 t = tableOf (accAt (xOf W c) (gOf W c) t.val) (cntAt (gOf W c) t.val) := by dsimp only [dat0]
  rw [e2] at lv1
  generalize leaves0 W c t = LV at *
  generalize (dat0 W c).before 2 t = B2 at *
  simp only [b0, b1]
  iintro ⟨HΦ, HO, ⟨%d0, H0⟩, ⟨%d1, H1⟩, ⟨%d2, H2⟩⟩
  rcases hn : t.val with _ | n
  · rw [hn] at hfst hltr hlast
    unfold statsΦ
    icases HΦ with ⟨⟨%A, HA⟩, ⟨%C, HC⟩, HR⟩
    iapply (stats_first c (grid0.coords t) (hfst rfl).1 (hfst rfl).2 (mt hlast.mpr (by decide)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) (Memref.whole cc0_scratch1) (Memref.isWhole_whole _)
      (rowsB (xOf W c) 0) (perB (gOf W c) 0) (B2 d2) A C Set.univ _)
    isplitl [H0]; · iexact H0
    isplitl [H1]; · iexact H1
    isplitl [H2]; · iexact H2
    isplitl [HA]; · rw [owns_whole]; iexact HA
    isplitl [HC]; · rw [owns_whole]; iexact HC
    iintro ⟨H0, H1, H2, HA, HC⟩
    isplitl [HA HC HR]
    · isplitl [HA]; · iexact HA
      isplitl [HC]; · iexact HC
      iexact HR
    isplitl [HO]; · iexact HO
    isplitl [H0]; · iexact H0
    isplitl [H1]; · iexact H1
    iapply (lv0 (by omega) d2); iexact H2
  · rw [hn] at hfst hltr hlast lv1
    unfold statsΦ
    icases HΦ with ⟨HA, HC, HR⟩
    by_cases h49 : n + 1 = 49
    · iapply (stats_last c (grid0.coords t) (hltr (by omega)).1 (hltr (by omega)).2 (hlast.mp h49) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) (Memref.whole cc0_scratch1) (Memref.isWhole_whole _)
        (rowsB (xOf W c) (n + 1)) (perB (gOf W c) (n + 1)) (B2 d2) (accAt (xOf W c) (gOf W c) n) (cntAt (gOf W c) n) Set.univ _)
      isplitl [H0]; · iexact H0
      isplitl [H1]; · iexact H1
      isplitl [H2]; · iexact H2
      isplitl [HA]; · iexact HA
      isplitl [HC]; · iexact HC
      iintro ⟨H0, H1, H2, HA, HC⟩
      isplitl [HA HC HR]
      · isplitl [HA]; · iexact HA
        isplitl [HC]; · iexact HC
        iexact HR
      isplitl [HO]; · iexact HO
      isplitl [H0]; · iexact H0
      isplitl [H1]; · iexact H1
      iapply (lv1 h49); iexact H2
    · iapply (stats_mid c (grid0.coords t) (hltr (by omega)).1 (hltr (by omega)).2 (mt hlast.mpr h49) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) (Memref.whole cc0_scratch1) (Memref.isWhole_whole _)
        (rowsB (xOf W c) (n + 1)) (perB (gOf W c) (n + 1)) (B2 d2) (accAt (xOf W c) (gOf W c) n) (cntAt (gOf W c) n) Set.univ _)
      isplitl [H0]; · iexact H0
      isplitl [H1]; · iexact H1
      isplitl [H2]; · iexact H2
      isplitl [HA]; · iexact HA
      isplitl [HC]; · iexact HC
      iintro ⟨H0, H1, H2, HA, HC⟩
      isplitl [HA HC HR]
      · isplitl [HA]; · iexact HA
        isplitl [HC]; · iexact HC
        iexact HR
      isplitl [HO]; · iexact HO
      isplitl [H0]; · iexact H0
      isplitl [H1]; · iexact H1
      iapply (lv0 (by omega) d2); iexact H2

theorem body0 (c : Dev nD) : BodyObligation (dat0 W c) (defs₀ (F := F)) 𝒱₀ none Set.univ := fun t => by
  rw [bigSep_W0, bigSep_W0]
  exact body0_step W c t ((dat0 W c).owesAt none t.castSucc)

theorem in0 (c : Dev nD) : (Pipeline.scopedRest spec0 c : sProp 𝕄) ⊢ (dat0 W c).Φ 0 := by
  rw [scopedRest0_eq]; exact .rfl

theorem statsΦ_rest (c : Dev nD) (n : ℕ) : statsΦ W c (n + 1) ⊢ statsΦ W c 0 := by
  unfold statsΦ
  dsimp only
  rw [owns_whole, owns_whole]
  iintro ⟨HA, HC, HR⟩
  isplitl [HA]; · iexists _; iexact HA
  isplitl [HC]; · iexists _; iexact HC
  iexact HR

theorem out0 (c : Dev nD) : (dat0 W c).Φ (Fin.last cfg0.N) ⊢ (Pipeline.scopedRest spec0 c : sProp 𝕄) := by
  rw [scopedRest0_eq]; exact statsΦ_rest W c 49

/-- The table's array after the region. -/
theorem final0 (c : Dev nD) : (dat0 W c).arrAt 2 cfg0.N = table (xOf W c) (gOf W c) :=
  (dat0 W c).arrAt_eq_of_after_last 2 (⟨49, by decide⟩ : Fin grid0.N) (by decide +kernel) _ (fun j => by
    dsimp only [dat0]; rfl)

end Cert.Proof.Seg

end
-- ==== Proof.NormRegion.lean ====
/-
  The norm kernel's region: every block of the result is the block of the input, its rows' means taken away, scaled by
  the rows' reciprocal deviations and the weight, and shifted by the bias.
-/
module

public import proofs.«01_k».proof.Proof.StatsRegion

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window RegionSeg arrRefs PLaunchFacts BodyObligation)

variable {F : FTy → Type} [FloatOps F]

local notation "𝕄" => MT nD τ sig (HIx 1) (Elt F) ℕ UU ℕ

/-- Block `n` of the result. -/
def normB (x : S100000x128.Idx → Elt F .f32) (mu rs : S50x1x2000.Idx → Elt F .f32) (w b : S1.Idx → Elt F .f32) (n : ℕ) : S2000x128.Idx → Elt F .f32 :=
  k2_pay1 (rowsB x n) (perB mu n) (perB rs n) (w one0) (b one0)

/-- Row `r`, column `k` of a block of two thousand rows. -/
def inB (r k : ℕ) : S2000x128.Idx
  | ⟨0, _⟩ => ⟨r % 2000, Nat.mod_lt _ (by decide)⟩
  | ⟨1, _⟩ => ⟨k % 128, Nat.mod_lt _ (by decide)⟩

/-- The result: row `r` is row `r % 2000` of block `r / 2000`. -/
def normed (x : S100000x128.Idx → Elt F .f32) (mu rs : S50x1x2000.Idx → Elt F .f32) (w b : S1.Idx → Elt F .f32) : S100000x128.Idx → Elt F .f32 :=
  fun i => normB x mu rs w b ((i 0).val / 2000) (inB (i 0).val (i 1).val)

variable (W : Dev nD → Valuation τ sig (Elt F))

abbrev muOf (c : Dev nD) : S50x1x2000.Idx → Elt F .f32 := W c (Proc.devRef .tc main_v4)
abbrev rsOf (c : Dev nD) : S50x1x2000.Idx → Elt F .f32 := W c (Proc.devRef .tc main_v5)
abbrev wOf (c : Dev nD) : S1.Idx → Elt F .f32 := W c (Proc.devRef .tc main_arg2)
abbrev bOf (c : Dev nD) : S1.Idx → Elt F .f32 := W c (Proc.devRef .tc main_arg3)

/-- The norm kernel's proof data. -/
def dat1 (c : Dev nD) : Dat τ (Elt F) (HIx 1) ℕ UU ℕ cfg2 c where
  A w := W c (Proc.devRef .tc (Pipeline.arrRef spec2 w))
  after w t := match w with
    | ⟨0, _⟩ => rowsB (xOf W c) t.val
    | ⟨1, _⟩ => perB (muOf W c) t.val
    | ⟨2, _⟩ => perB (rsOf W c) t.val
    | ⟨3, _⟩ => wOf W c
    | ⟨4, _⟩ => bOf W c
    | ⟨5, _⟩ => normB (xOf W c) (muOf W c) (rsOf W c) (wOf W c) (bOf W c) t.val
  Φ _ := Pipeline.scopedRest spec2 c
  q _ := fullShare
  owed _ := (K (F := F)).Otc c 1
  recorded _ := below (F := F) c 1

theorem index2_0 : ∀ t : Fin cfg2.N, win2_0.index t = ![t.val, 0] := (by decide +kernel : ∀ t : Fin grid2.N, _)
theorem index2_1 : ∀ t : Fin cfg2.N, win2_1.index t = ![t.val, 0, 0] := (by decide +kernel : ∀ t : Fin grid2.N, _)
theorem index2_2 : ∀ t : Fin cfg2.N, win2_2.index t = ![t.val, 0, 0] := (by decide +kernel : ∀ t : Fin grid2.N, _)
theorem index2_3 : ∀ t : Fin cfg2.N, win2_3.index t = ![0] := (by decide +kernel : ∀ t : Fin grid2.N, _)
theorem index2_4 : ∀ t : Fin cfg2.N, win2_4.index t = ![0] := (by decide +kernel : ∀ t : Fin grid2.N, _)
theorem index2_5 : ∀ t : Fin cfg2.N, win2_5.index t = ![t.val, 0] := (by decide +kernel : ∀ t : Fin grid2.N, _)

theorem before2_0 (c : Dev nD) (t : Fin cfg2.N) (d) : (dat1 W c).before 0 t d = rowsB (xOf W c) t.val := by
  rw [(dat1 W c).before_fetched 0 t (fetch2_0 t) d]
  unfold Dat.fetched Dat.blockOf; dsimp only [dat1]
  funext y
  show W c (Proc.devRef .tc main_arg0) ((win2_0.blk t).view.emb y) = _
  refine congrArg (W c (Proc.devRef .tc main_arg0)) ?_
  have ht : t.val < 50 := t.isLt
  have h0 : (y 0).val < 2000 := (y 0).isLt
  have h1 : (y 1).val < 128 := (y 1).isLt
  have e := index2_0 t
  funext a
  apply Fin.ext
  blk_simp [e]
  fin_cases a
  · show t.val * 2000 + (y 0).val = (2000 * t.val + (y 0).val) % 100000; omega
  · show 0 * 128 + (y 1).val = (y 1).val % 128; omega

theorem before2_1 (c : Dev nD) (t : Fin cfg2.N) (d) : (dat1 W c).before 1 t d = perB (muOf W c) t.val := by
  rw [(dat1 W c).before_fetched 1 t (fetch2_1 t) d]
  unfold Dat.fetched Dat.blockOf; dsimp only [dat1]
  funext y
  show W c (Proc.devRef .tc main_v4) ((win2_1.blk t).view.emb y) = _
  refine congrArg (W c (Proc.devRef .tc main_v4)) ?_
  have ht : t.val < 50 := t.isLt
  have h0 : (y 0).val < 1 := (y 0).isLt
  have h1 : (y 1).val < 1 := (y 1).isLt
  have h2 : (y 2).val < 2000 := (y 2).isLt
  have e := index2_1 t
  funext a
  apply Fin.ext
  blk_simp [e]
  fin_cases a
  · show t.val * 1 + (y 0).val = t.val % 50; omega
  · show 0 * 1 + (y 1).val = 0; omega
  · show 0 * 2000 + (y 2).val = (y 2).val % 2000; omega

theorem before2_2 (c : Dev nD) (t : Fin cfg2.N) (d) : (dat1 W c).before 2 t d = perB (rsOf W c) t.val := by
  rw [(dat1 W c).before_fetched 2 t (fetch2_2 t) d]
  unfold Dat.fetched Dat.blockOf; dsimp only [dat1]
  funext y
  show W c (Proc.devRef .tc main_v5) ((win2_2.blk t).view.emb y) = _
  refine congrArg (W c (Proc.devRef .tc main_v5)) ?_
  have ht : t.val < 50 := t.isLt
  have h0 : (y 0).val < 1 := (y 0).isLt
  have h1 : (y 1).val < 1 := (y 1).isLt
  have h2 : (y 2).val < 2000 := (y 2).isLt
  have e := index2_2 t
  funext a
  apply Fin.ext
  blk_simp [e]
  fin_cases a
  · show t.val * 1 + (y 0).val = t.val % 50; omega
  · show 0 * 1 + (y 1).val = 0; omega
  · show 0 * 2000 + (y 2).val = (y 2).val % 2000; omega

theorem block2_3 (c : Dev nD) (t : Fin cfg2.N) (y : S1.Idx) : W c (Proc.devRef .tc main_arg2) ((win2_3.blk t).view.emb y) = wOf W c y := by
  refine congrArg (W c (Proc.devRef .tc main_arg2)) ?_
  have e := index2_3 t
  funext a
  apply Fin.ext
  blk_simp [e]
  fin_cases a
  show 0 * 1 + (y 0).val = (y 0).val; omega

theorem block2_4 (c : Dev nD) (t : Fin cfg2.N) (y : S1.Idx) : W c (Proc.devRef .tc main_arg3) ((win2_4.blk t).view.emb y) = bOf W c y := by
  refine congrArg (W c (Proc.devRef .tc main_arg3)) ?_
  have e := index2_4 t
  funext a
  apply Fin.ext
  blk_simp [e]
  fin_cases a
  show 0 * 1 + (y 0).val = (y 0).val; omega

theorem before2_3 (c : Dev nD) (t : Fin cfg2.N) (d) : (dat1 W c).before 3 t d = wOf W c := by
  rw [(dat1 W c).before_in_eq_fetched 3 rfl (fun _ => rfl) (fun _ _ _ => rfl) (fun t => by
    dsimp only [dat1]; funext y; exact (block2_3 W c t y).symm) t d]
  unfold Dat.fetched Dat.blockOf; dsimp only [dat1]
  funext y; exact block2_3 W c t y

theorem before2_4 (c : Dev nD) (t : Fin cfg2.N) (d) : (dat1 W c).before 4 t d = bOf W c := by
  rw [(dat1 W c).before_in_eq_fetched 4 rfl (fun _ => rfl) (fun _ _ _ => rfl) (fun t => by
    dsimp only [dat1]; funext y; exact (block2_4 W c t y).symm) t d]
  unfold Dat.fetched Dat.blockOf; dsimp only [dat1]
  funext y; exact block2_4 W c t y

theorem body1_step (c : Dev nD) (t : Fin cfg2.N) (R O : sProp 𝕄) :
    iprop(R ∗ O ∗ (∃ d, owns (c : Thread nD τ) (st2_0 t) fullShare ((dat1 W c).before 0 t d))
        ∗ (∃ d, owns (c : Thread nD τ) (st2_1 t) fullShare ((dat1 W c).before 1 t d))
        ∗ (∃ d, owns (c : Thread nD τ) (st2_2 t) fullShare ((dat1 W c).before 2 t d))
        ∗ (∃ d, owns (c : Thread nD τ) (st2_3 t) fullShare ((dat1 W c).before 3 t d))
        ∗ (∃ d, owns (c : Thread nD τ) (st2_4 t) fullShare ((dat1 W c).before 4 t d))
        ∗ (∃ d, owns (c : Thread nD τ) (st2_5 t) fullShare ((dat1 W c).before 5 t d)))
      ⊢ wp frame (wpE (defs₀ (F := F)) 𝒱₀ c none) Set.univ (bodyAt2 t) fun _ =>
        iprop(R ∗ O ∗ owns (c : Thread nD τ) (st2_0 t) fullShare (rowsB (xOf W c) t.val)
          ∗ owns (c : Thread nD τ) (st2_1 t) fullShare (perB (muOf W c) t.val)
          ∗ owns (c : Thread nD τ) (st2_2 t) fullShare (perB (rsOf W c) t.val)
          ∗ owns (c : Thread nD τ) (st2_3 t) fullShare (wOf W c)
          ∗ owns (c : Thread nD τ) (st2_4 t) fullShare (bOf W c)
          ∗ owns (c : Thread nD τ) (st2_5 t) fullShare (normB (xOf W c) (muOf W c) (rsOf W c) (wOf W c) (bOf W c) t.val)) := by
  have b0 := before2_0 W c t
  have b1 := before2_1 W c t
  have b2 := before2_2 W c t
  have b3 := before2_3 W c t
  have b4 := before2_4 W c t
  generalize (dat1 W c).before 5 t = B5 at *
  simp only [b0, b1, b2, b3, b4]
  iintro ⟨HR, HO, ⟨%d0, H0⟩, ⟨%d1, H1⟩, ⟨%d2, H2⟩, ⟨%d3, H3⟩, ⟨%d4, H4⟩, ⟨%d5, H5⟩⟩
  iapply (norm_body c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5))
    (rowsB (xOf W c) t.val) (perB (muOf W c) t.val) (perB (rsOf W c) t.val) (wOf W c) (bOf W c) (B5 d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HR]; · iexact HR
  isplitl [HO]; · iexact HO
  isplitl [H0]; · iexact H0
  isplitl [H1]; · iexact H1
  isplitl [H2]; · iexact H2
  isplitl [H3]; · iexact H3
  isplitl [H4]; · iexact H4
  iexact H5

theorem body1 (c : Dev nD) : BodyObligation (dat1 W c) (defs₀ (F := F)) 𝒱₀ none Set.univ := fun t => by
  rw [bigSep_W2, bigSep_W2]
  exact body1_step W c t (Pipeline.scopedRest spec2 c) ((dat1 W c).owesAt none t.castSucc)

theorem in1 (c : Dev nD) : (Pipeline.scopedRest spec2 c : sProp 𝕄) ⊢ (dat1 W c).Φ 0 := by
  show _ ⊢ Pipeline.scopedRest spec2 c; exact .rfl

theorem out1 (c : Dev nD) : (dat1 W c).Φ (Fin.last cfg2.N) ⊢ (Pipeline.scopedRest spec2 c : sProp 𝕄) := by
  show Pipeline.scopedRest spec2 c ⊢ _; exact .rfl

/-- The result's array after the region. -/
theorem final1 (c : Dev nD) : (dat1 W c).arrAt 5 cfg2.N = normed (xOf W c) (muOf W c) (rsOf W c) (wOf W c) (bOf W c) :=
  (dat1 W c).arrAt_eq_of_covers 5 _ (by decide +kernel) (fun t _ y => by
    dsimp only [dat1]
    have ht : t.val < 50 := t.isLt
    have h0 : (y 0).val < 2000 := (y 0).isLt
    have h1 : (y 1).val < 128 := (y 1).isLt
    have e := index2_5 t
    have e0 : ((win2_5.blk t).view.emb y 0).val = t.val * 2000 + (y 0).val := by blk_simp [e]
    have e1 : ((win2_5.blk t).view.emb y 1).val = 0 * 128 + (y 1).val := by blk_simp [e]
    show normB (xOf W c) (muOf W c) (rsOf W c) (wOf W c) (bOf W c) t.val y
      = normB (xOf W c) (muOf W c) (rsOf W c) (wOf W c) (bOf W c) (((win2_5.blk t).view.emb y 0).val / 2000)
        (inB ((win2_5.blk t).view.emb y 0).val ((win2_5.blk t).view.emb y 1).val)
    rw [e0, e1, show (t.val * 2000 + (y 0).val) / 2000 = t.val by omega]
    refine congrArg (normB (xOf W c) (muOf W c) (rsOf W c) (wOf W c) (bOf W c) t.val) ?_
    funext a
    apply Fin.ext
    fin_cases a
    · show (y 0).val = (t.val * 2000 + (y 0).val) % 2000; omega
    · show (y 1).val = (0 * 128 + (y 1).val) % 128; omega)

end Cert.Proof.Seg

end
-- ==== Proof.Main.lean ====
/-
  @main on the TensorCore: the segment ids reshaped into blocks, the statistics kernel, its table flattened, the
  gather on the SparseCores, its results reshaped into blocks, the norm kernel; and what each array holds in between.
-/
module

public import proofs.«01_k».proof.Proof.Split
public import proofs.«01_k».proof.Proof.NormRegion

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

open Idealize.ShloMosaic.Pipeline (Dat Cfg Window RegionSeg arrRefs ucRefs PLaunchFacts BodyObligation)

/-! ## The arrays' contents along @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v30' : DevRef τ sig := Proc.devRef .tc (main_v3_0 : Ref sig .tc)
abbrev v31' : DevRef τ sig := Proc.devRef .tc (main_v3_1 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev op0 : HloOp τ sig (Elt F) := StableHlo.reshape main_arg1 main_v0 (rfl : (.i32 : EltTy) = .i32) shapeCasts_S100000_S50x1x2000
abbrev op2 : HloOp τ sig (Elt F) := StableHlo.reshape main_v1 main_v2 (rfl : (.f32 : EltTy) = .f32) shapeCasts_S8x512_S4096
abbrev op4 : HloOp τ sig (Elt F) := StableHlo.reshape main_v3_0 main_v4 (rfl : (.f32 : EltTy) = .f32) shapeCasts_S100000_S50x1x2000
abbrev op5 : HloOp τ sig (Elt F) := StableHlo.reshape main_v3_1 main_v5 (rfl : (.f32 : EltTy) = .f32) shapeCasts_S100000_S50x1x2000

variable (m : (ℓ : Loc nD τ sig) → Buf (Elt F) ℓ) (ρ : Dev nD → PrngReg)

/-- At the launch. -/
def V0 (d : Dev nD) : Valuation τ sig (Elt F) := fun b => m (d, b)
/-- The segment ids in blocks. -/
def V1 (d : Dev nD) : Valuation τ sig (Elt F) := (op0 (F := F)).result (V0 m d)
/-- The table. -/
def V2 (d : Dev nD) : Valuation τ sig (Elt F) := Function.update (V1 m d) v1' (table (xOf (V1 m) d) (gOf (V1 m) d))
/-- The table flattened. -/
def V3 (d : Dev nD) : Valuation τ sig (Elt F) := (op2 (F := F)).result (V2 m d)
/-- The table the gather reads, and its segment ids. -/
def tbl (d : Dev nD) : Buf (Elt F) (tbLoc d) := V3 m d v2'
def ids (d : Dev nD) : Buf (Elt F) (idLoc d) := m (idLoc d)
/-- The gather's results. -/
def V4 (d : Dev nD) : Valuation τ sig (Elt F) :=
  Function.update (Function.update (V3 m d) v30' (gMu (tbl m d) (ids m d))) v31' (gRs (tbl m d) (ids m d))
/-- Both in blocks. -/
def V5 (d : Dev nD) : Valuation τ sig (Elt F) := (op4 (F := F)).result (V4 m d)
def V6 (d : Dev nD) : Valuation τ sig (Elt F) := (op5 (F := F)).result (V5 m d)
/-- The result. -/
def V7 (d : Dev nD) : Valuation τ sig (Elt F) :=
  Function.update (V6 m d) v6' (normed (xOf (V6 m) d) (muOf (V6 m) d) (rsOf (V6 m) d) (wOf (V6 m) d) (bOf (V6 m) d))

theorem V1_of (d : Dev nD) {b : DevRef τ sig} (h : b ≠ v0') : V1 m d b = m (d, b) :=
  (op0 (F := F)).result_of_not_mem _ (fun hb => h (Finset.mem_singleton.1 hb))
theorem V2_of (d : Dev nD) {b : DevRef τ sig} (h : b ≠ v1') : V2 m d b = V1 m d b := Function.update_of_ne h _ _
theorem V3_of (d : Dev nD) {b : DevRef τ sig} (h : b ≠ v2') : V3 m d b = V2 m d b :=
  (op2 (F := F)).result_of_not_mem _ (fun hb => h (Finset.mem_singleton.1 hb))
theorem V4_of (d : Dev nD) {b : DevRef τ sig} (h : b ≠ v30') (h' : b ≠ v31') : V4 m d b = V3 m d b :=
  (Function.update_of_ne h' _ _).trans (Function.update_of_ne h _ _)
theorem V5_of (d : Dev nD) {b : DevRef τ sig} (h : b ≠ v4') : V5 m d b = V4 m d b :=
  (op4 (F := F)).result_of_not_mem _ (fun hb => h (Finset.mem_singleton.1 hb))
theorem V6_of (d : Dev nD) {b : DevRef τ sig} (h : b ≠ v5') : V6 m d b = V5 m d b :=
  (op5 (F := F)).result_of_not_mem _ (fun hb => h (Finset.mem_singleton.1 hb))
theorem V7_of (d : Dev nD) {b : DevRef τ sig} (h : b ≠ v6') : V7 m d b = V6 m d b := Function.update_of_ne h _ _

theorem V6_arg (d : Dev nD) {b : DevRef τ sig} (h0 : b ≠ v0') (h1 : b ≠ v1') (h2 : b ≠ v2') (h3 : b ≠ v30') (h3' : b ≠ v31')
    (h4 : b ≠ v4') (h5 : b ≠ v5') : V6 m d b = m (d, b) := by
  rw [V6_of m d h5, V5_of m d h4, V4_of m d h3 h3', V3_of m d h2, V2_of m d h1, V1_of m d h0]

theorem V3_ids (d : Dev nD) : V3 m d a1' = ids m d := by
  rw [V3_of m d (by decide), V2_of m d (by decide), V1_of m d (by decide)]; rfl

/-! ## The two regions -/

/-- The proof data of both TensorCore kernels, at what each finds. -/
def pdats : (p : Fin 2) → (c : Dev nD) → Dat τ (Elt F) (HIx 1) ℕ UU ℕ (Pipeline.pin (pcfgs (F := F)) adm p) c
  | 0, c => dat0 (V1 m) c
  | 1, c => dat1 (V6 m) c

def region0 : RegionSeg (pcfgs (F := F)) adm (pdats m) none defs₀ 𝒱₀ (K (F := F)).L (K (F := F)).lev 0 :=
  region (pdats m) 0 0 launch0.toP rfl (fun c => body0 (V1 m) c) (fun _ _ => rfl) (fun _ _ => rfl)
    (fun c w => Dat.share_full _ (fun _ => rfl) w) (fun c => in0 (V1 m) c) (fun c => out0 (V1 m) c) (V1 m) (V2 m)
    (fun c w => rfl)
    (fun c w => match w with
      | ⟨0, _⟩ => (Dat.arrAt_in (dat0 (V1 m) c) 0 rfl _).trans (V2_of m c (b := a0') (by decide)).symm
      | ⟨1, _⟩ => (Dat.arrAt_in (dat0 (V1 m) c) 1 rfl _).trans (V2_of m c (b := v0') (by decide)).symm
      | ⟨2, _⟩ => (final0 (V1 m) c).trans (Function.update_self (β := fun b : DevRef τ sig => b.ty.Contents (Elt F)) v1' _ _).symm)

def region1 : RegionSeg (pcfgs (F := F)) adm (pdats m) none defs₀ 𝒱₀ (K (F := F)).L (K (F := F)).lev 1 :=
  region (pdats m) 1 1 launch2.toP rfl (fun c => body1 (V6 m) c) (fun _ _ => rfl) (fun _ _ => rfl)
    (fun c w => Dat.share_full _ (fun _ => rfl) w) (fun c => in1 (V6 m) c) (fun c => out1 (V6 m) c) (V6 m) (V7 m)
    (fun c w => rfl)
    (fun c w => match w with
      | ⟨0, _⟩ => (Dat.arrAt_in (dat1 (V6 m) c) 0 rfl _).trans (V7_of m c (b := a0') (by decide)).symm
      | ⟨1, _⟩ => (Dat.arrAt_in (dat1 (V6 m) c) 1 rfl _).trans (V7_of m c (b := v4') (by decide)).symm
      | ⟨2, _⟩ => (Dat.arrAt_in (dat1 (V6 m) c) 2 rfl _).trans (V7_of m c (b := v5') (by decide)).symm
      | ⟨3, _⟩ => (Dat.arrAt_in (dat1 (V6 m) c) 3 rfl _).trans (V7_of m c (b := a2') (by decide)).symm
      | ⟨4, _⟩ => (Dat.arrAt_in (dat1 (V6 m) c) 4 rfl _).trans (V7_of m c (b := a3') (by decide)).symm
      | ⟨5, _⟩ => (final1 (V6 m) c).trans (Function.update_self (β := fun b : DevRef τ sig => b.ty.Contents (Elt F)) v6' _ _).symm)

/-- A region's call, as a program of the table under the SparseCore launch. -/
theorem entry_lift (d : Dev nD) (p : Fin 2) :
    (Prog.lift (.customCall (SparseCore.inner (Pipeline.entry p)) ()) :
        Prog (TpuEff nD τ sig (Elt F) (SparseCore.Sig (ΛP (F := F)) 1) (T d : Thread nD τ).2) PUnit)
      = SparseCore.liftProg (.op (.customCall (Pipeline.entry p) ()) fun _ => .ret ⟨⟩) := rfl

/-- A region's step, over all the unscoped arrays. -/
theorem region_step [∀ e, Nonempty (Elt F e)] (p : Fin 2) (n : ℕ) (W W' : Dev nD → Valuation τ sig (Elt F))
    (R : RegionSeg (pcfgs (F := F)) adm (pdats m) none defs₀ 𝒱₀ (K (F := F)).L (K (F := F)).lev p)
    (hpre : ∀ c, R.pre c = iprop(held (c.tc : Thread nD τ) (arrRefs (pcfgs (F := F) p).spec) (W c) ∗ owing c n))
    (hpost : ∀ c, R.post c = iprop(held (c.tc : Thread nD τ) (arrRefs (pcfgs (F := F) p).spec) (W' c) ∗ owing c n))
    (harr : arrRefs (pcfgs (F := F) p).spec ⊆ ucRefs τ sig) (d : Dev nD)
    (hoff : ∀ b ∈ ucRefs τ sig \ arrRefs (pcfgs (F := F) p).spec, W d b = W' d b) (Q : PUnit → sProp 𝕄) :
    iprop((iprop(boundary (T d) ∗ held (T d) (ucRefs τ sig) (W' d) ∗ owing d n) -∗ Q ⟨⟩)
        ∗ boundary (T d) ∗ held (T d) (ucRefs τ sig) (W d) ∗ owing d n ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  rw [StableHlo.held_sub_split (T d) harr (W d), StableHlo.held_sub_split (T d) harr (W' d),
    ← StableHlo.held_congr (T d) (S := ucRefs τ sig \ arrRefs (pcfgs (F := F) p).spec) hoff]
  rw [entry_lift (F := F) d p]
  refine BIBase.Entails.trans ?_ ((K (F := F)).wp_liftProg (D (F := F)) 𝒱 (T d) Set.univ none _ Q)
  have h := RegionSeg.wp (pcfgs (F := F)) adm (pdats m) none cellOf_inj EP defs₀ 𝒱₀ (K (F := F)).L (K (F := F)).lev R d none
    (fun _ h => nomatch h) (fun _ => .ret ⟨⟩) Q
  rw [hpre d, hpost d] at h
  refine BIBase.Entails.trans ?_ h
  rw [wp_ret]
  iintro ⟨Hk, Hb, ⟨Ha, Hr⟩, HO, Hl, Hg, Ht⟩
  isplitl [Hk Hr]
  · iintro ⟨Hb, Ha, HO⟩
    imodintro
    iapply Hk
    isplitl [Hb]; · iexact Hb
    isplitl [Ha Hr]
    · isplitl [Ha]; · iexact Ha
      iexact Hr
    iexact HO
  isplitl [Hb]; · iexact Hb
  isplitl [Ha HO]
  · isplitl [Ha]; · iexact Ha
    iexact HO
  isplitl [Hl]; · iexact Hl
  isplitl [Hg]; · iexact Hg
  iexact Ht

end Cert.Proof.Seg

end
-- ==== Proof.Run.lean ====
/-
  The launch: @main's run from the launch contents to its last ones, what the ghost state is taken from, and the
  program's run: every argument as it was, the result the last kernel's, every semaphore counter at zero.
-/
module

public import proofs.«01_k».proof.Proof.Main

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

open Idealize.ShloMosaic.Pipeline (arrRefs ucRefs)
open Idealize.ShloMosaic.StableHlo (wp_hlo_within)

variable (m : (ℓ : Loc nD τ sig) → Buf (Elt F) ℓ) (ρ : Dev nD → PrngReg)

/-! ## The gather's step -/

/-- The gather's arrays. -/
abbrev S4 : Finset (DevRef τ sig) := {v2', a1', v30', v31'}

theorem held_S4 (d : Dev nD) (W : Valuation τ sig (Elt F)) :
    (held (T d) S4 W : sProp 𝕄) = iprop((tbLoc d ↦{fullShare} W v2') ∗ (idLoc d ↦{fullShare} W a1') ∗ (muLoc d ↦{fullShare} W v30')
      ∗ rsLoc d ↦{fullShare} W v31') := by
  unfold StableHlo.held S4
  rw [SparseCore.bigSep_insert' (by decide), SparseCore.bigSep_insert' (by decide), SparseCore.bigSep_insert' (by decide), bigSep_singleton]

theorem S4_sub : S4 ⊆ ucRefs τ sig := by decide

theorem V4_off (d : Dev nD) : ∀ b ∈ ucRefs τ sig \ S4, V3 m d b = V4 m d b := fun b hb => by
  refine (V4_of m d ?_ ?_).symm
  · rintro rfl; exact (Finset.mem_sdiff.1 hb).2 (by decide)
  · rintro rfl; exact (Finset.mem_sdiff.1 hb).2 (by decide)

theorem V4_tb (d : Dev nD) : V4 m d v2' = tbl m d := V4_of m d (by decide) (by decide)
theorem V4_id (d : Dev nD) : V4 m d a1' = ids m d := (V4_of m d (by decide) (by decide)).trans (V3_ids m d)
theorem V4_mu (d : Dev nD) : V4 m d v30' = gMu (tbl m d) (ids m d) :=
  (Function.update_of_ne (β := fun b : DevRef τ sig => b.ty.Contents (Elt F)) (show v30' ≠ v31' by decide) _ _).trans
    (Function.update_self (β := fun b : DevRef τ sig => b.ty.Contents (Elt F)) v30' _ _)
theorem V4_rs (d : Dev nD) : V4 m d v31' = gRs (tbl m d) (ids m d) :=
  Function.update_self (β := fun b : DevRef τ sig => b.ty.Contents (Elt F)) v31' _ _

theorem gather_step (κ : GSem nD τ sig → ℕ) (d : Dev nD) (Q : PUnit → sProp 𝕄) :
    iprop((K (F := F)).ctx EH (P (tbl m) (ids m)) κ ∗ (K (F := F)).tcSt EH d 0 ∗ held (T d) (ucRefs τ sig) (V3 m d)
        ∗ (iprop((K (F := F)).tcSt EH d 1 ∗ held (T d) (ucRefs τ sig) (V4 m d)) -∗ Q ⟨⟩))
      ⊢ wp frame (wpE ((K (F := F)).defs (D (F := F))) 𝒱 (T d) none) Set.univ (sc.run d 0) Q := by
  rw [StableHlo.held_sub_split (T d) S4_sub (V3 m d), StableHlo.held_sub_split (T d) S4_sub (V4 m d),
    ← StableHlo.held_congr (T d) (V4_off m d), held_S4, held_S4, V4_tb, V4_id, V4_mu, V4_rs, V3_ids,
    show V3 m d v2' = tbl m d from rfl]
  iintro ⟨#Hctx, Hst, ⟨Harr, Hrest⟩, Hk⟩
  ihave Hd := (deal (tbl m) (ids m) d (V3 m d v30') (V3 m d v31')) $$ Harr
  icases Hd with ⟨Hkept, Hdeal⟩
  iapply ((K (F := F)).wp_run (D (F := F)) 𝒱 (EH := EH) (P := P (tbl m) (ids m)) κ d 0)
  isplitr; · iexact Hctx
  isplitl [Hst]; · iexact Hst
  isplitl [Hdeal]; · iexact Hdeal
  iintro ⟨Hst, Hdn⟩
  iapply Hk
  isplitl [Hst]; · iexact Hst
  isplitr [Hrest]
  · iapply (collect (tbl m) (ids m) d)
    isplitl [Hkept]; · iexact Hkept
    iexact Hdn
  · iexact Hrest

/-! ## @main -/

theorem op0_sub : (op0 (F := F)).bufs ⊆ ucRefs τ sig := Pipeline.sub_ucRefs _ (StableHlo.reshape_bufs_sub ..)
theorem op2_sub : (op2 (F := F)).bufs ⊆ ucRefs τ sig := Pipeline.sub_ucRefs _ (StableHlo.reshape_bufs_sub ..)
theorem op4_sub : (op4 (F := F)).bufs ⊆ ucRefs τ sig := Pipeline.sub_ucRefs _ (StableHlo.reshape_bufs_sub ..)
theorem op5_sub : (op5 (F := F)).bufs ⊆ ucRefs τ sig := Pipeline.sub_ucRefs _ (StableHlo.reshape_bufs_sub ..)

theorem arr0_sub : arrRefs (τ := τ) (pcfgs (F := F) 0).spec ⊆ ucRefs τ sig := Pipeline.arrRefs_sub_ucRefs spec0 (by decide)
theorem arr2_sub : arrRefs (τ := τ) (pcfgs (F := F) 1).spec ⊆ ucRefs τ sig := Pipeline.arrRefs_sub_ucRefs spec2 (by decide)

theorem V2_off (d : Dev nD) : ∀ b ∈ ucRefs τ sig \ arrRefs (pcfgs (F := F) 0).spec, V1 m d b = V2 m d b := fun b hb => by
  refine (V2_of m d ?_).symm
  rintro rfl; exact (Finset.mem_sdiff.1 hb).2 (show v1' ∈ arrRefs (τ := τ) spec0 by decide)
theorem V7_off (d : Dev nD) : ∀ b ∈ ucRefs τ sig \ arrRefs (pcfgs (F := F) 1).spec, V6 m d b = V7 m d b := fun b hb => by
  refine (V7_of m d ?_).symm
  rintro rfl; exact (Finset.mem_sdiff.1 hb).2 (show v6' ∈ arrRefs (τ := τ) spec2 by decide)

/-- A region's step of the TensorCore's state between calls. -/
theorem region0_step [∀ e, Nonempty (Elt F e)] (d : Dev nD) (Q : PUnit → sProp 𝕄) :
    iprop((K (F := F)).tcSt EH d 0 ∗ boundary (T d) ∗ held (T d) (ucRefs τ sig) (V1 m d) ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop((K (F := F)).tcSt EH d 0 ∗ boundary (T d) ∗ held (T d) (ucRefs τ sig) (V2 m d)) -∗ Q ⟨⟩))
      ⊢ wp frame (wpE ((K (F := F)).defs (D (F := F))) 𝒱 (T d) none) Set.univ
          (Prog.lift (.customCall (SparseCore.inner (Pipeline.entry 0)) ())) Q := by
  refine BIBase.Entails.trans ?_ (region_step m 0 0 (V1 m) (V2 m) (region0 m) (fun _ => rfl) (fun _ => rfl) arr0_sub d (V2_off m d) Q)
  unfold SparseCore.Cfg.tcSt owing
  iintro ⟨⟨HO, Hst⟩, Hb, Hh, Hl, Hg, Ht, Hk⟩
  isplitl [Hst Hk]
  · iintro ⟨Hb, Hh, HO⟩
    iapply Hk
    isplitl [HO Hst]
    · isplitl [HO]; · iexact HO
      iexact Hst
    isplitl [Hb]; · iexact Hb
    iexact Hh
  isplitl [Hb]; · iexact Hb
  isplitl [Hh]; · iexact Hh
  isplitl [HO]; · iexact HO
  isplitl [Hl]; · iexact Hl
  isplitl [Hg]; · iexact Hg
  iexact Ht

theorem region1_step [∀ e, Nonempty (Elt F e)] (d : Dev nD) (Q : PUnit → sProp 𝕄) :
    iprop((K (F := F)).tcSt EH d 1 ∗ boundary (T d) ∗ held (T d) (ucRefs τ sig) (V6 m d) ∗ levAts (K (F := F)).L (K (F := F)).lev
        ∗ Pipeline.cellsGhost (Pipeline.pin (pcfgs (F := F)) adm) EP 1 d ∗ Pipeline.toksInit (Pipeline.pin (pcfgs (F := F)) adm) EP 1 d
        ∗ (iprop((K (F := F)).tcSt EH d 1 ∗ boundary (T d) ∗ held (T d) (ucRefs τ sig) (V7 m d)) -∗ Q ⟨⟩))
      ⊢ wp frame (wpE ((K (F := F)).defs (D (F := F))) 𝒱 (T d) none) Set.univ
          (Prog.lift (.customCall (SparseCore.inner (Pipeline.entry 1)) ())) Q := by
  refine BIBase.Entails.trans ?_ (region_step m 1 1 (V6 m) (V7 m) (region1 m) (fun _ => rfl) (fun _ => rfl) arr2_sub d (V7_off m d) Q)
  unfold SparseCore.Cfg.tcSt owing
  iintro ⟨⟨HO, Hst⟩, Hb, Hh, Hl, Hg, Ht, Hk⟩
  isplitl [Hst Hk]
  · iintro ⟨Hb, Hh, HO⟩
    iapply Hk
    isplitl [HO Hst]
    · isplitl [HO]; · iexact HO
      iexact Hst
    isplitl [Hb]; · iexact Hb
    iexact Hh
  isplitl [Hb]; · iexact Hb
  isplitl [Hh]; · iexact Hh
  isplitl [HO]; · iexact HO
  isplitl [Hl]; · iexact Hl
  isplitl [Hg]; · iexact Hg
  iexact Ht

/-- The pipelines' ghost state of one device. -/
def ghosts (d : Dev nD) : sProp 𝕄 :=
  iprop((Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d)

/-- What @main leaves: every array at its last contents. -/
abbrev FIN (d : Dev nD) : sProp 𝕄 := held (T d) (ucRefs τ sig) (V7 m d)

theorem unscoped_held (d : Dev nD) : (unscopedBufs d (fun b => m ((SparseCore.T d).loc b)) : sProp 𝕄) = held (T d) (ucRefs τ sig) (V0 m d) :=
  Pipeline.unscopedBufs_held d (V0 m d)

theorem hmain [∀ e, Nonempty (Elt F e)] (κ : GSem nD τ sig → ℕ) (d : Dev nD) :
    iprop((K (F := F)).ctx EH (P (tbl m) (ids m)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghosts
  rw [unscoped_held]
  simp only [main, wp_bind, wp_pure]
  iintro ⟨#Hctx, Hst, ⟨Hb, Hheld, Hts, -⟩, ⟨Hg0, Hg1⟩, Ht0, Ht1⟩
  ihave Hlev := (SparseCore.Cfg.ctx_levAts κ) $$ Hctx
  icases Hlev with #Hlev
  iapply (wp_hlo_within 𝒱 (SparseCore.T d) none Set.univ (op := op0) (S := ucRefs τ sig) op0_sub (V := V0 m d)) $$ [Hb Hheld]
  · isplitl [Hb]; · iexact Hb
    iexact Hheld
  iintro ⟨Hb, Hheld⟩
  rw [wp_ret]; imodintro
  iapply (region0_step m d _)
  isplitl [Hst]; · iexact Hst
  isplitl [Hb]; · iexact Hb
  isplitl [Hheld]; · iexact Hheld
  isplitr; · iexact Hlev
  isplitl [Hg0]; · iexact Hg0
  isplitl [Ht0]; · iexact Ht0
  iintro ⟨Hst, Hb, Hheld⟩
  iapply (wp_hlo_within 𝒱 (SparseCore.T d) none Set.univ (op := op2) (S := ucRefs τ sig) op2_sub (V := V2 m d)) $$ [Hb Hheld]
  · isplitl [Hb]; · iexact Hb
    iexact Hheld
  iintro ⟨Hb, Hheld⟩
  rw [wp_ret]; imodintro
  iapply (gather_step m κ d _)
  isplitr; · iexact Hctx
  isplitl [Hst]; · iexact Hst
  isplitl [Hheld]; · iexact Hheld
  iintro ⟨Hst, Hheld⟩
  iapply (wp_hlo_within 𝒱 (SparseCore.T d) none Set.univ (op := op4) (S := ucRefs τ sig) op4_sub (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := ucRefs τ sig) op5_sub (V := V5 m d)) $$ [Hb Hheld]
  · isplitl [Hb]; · iexact Hb
    iexact Hheld
  iintro ⟨Hb, Hheld⟩
  rw [wp_ret]; imodintro
  iapply (region1_step m d _)
  isplitl [Hst]; · iexact Hst
  isplitl [Hb]; · iexact Hb
  isplitl [Hheld]; · iexact Hheld
  isplitr; · iexact Hlev
  isplitl [Hg1]; · iexact Hg1
  isplitl [Ht1]; · iexact Ht1
  iintro ⟨Hst, Hb, Hheld⟩
  imodintro
  isplitl [Hst]; · iexact Hst
  isplitl [Hheld]; · iexact Hheld
  isplitl [Hb] <;> iassumption

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The call's threads are handed nothing beside its operands. -/
theorem no_extra : (bigSep Finset.univ fun thr : Thread nD τ => bigSep Finset.univ fun q : Fin 1 => (P (tbl m) (ids m)).x q thr) = (BI.emp : sProp 𝕄) := by
  refine (bigSep_congr fun thr _ => ?_).trans (bigSep_emp_const (Finset.univ : Finset (Thread nD τ)))
  exact (bigSep_congr fun q _ => rfl).trans (bigSep_emp_const (Finset.univ : Finset (Fin 1)))

theorem own_pipes (a : UR sig nD τ) (b : Counters) :
    (BI.own (embR (nD := nD) (τ := τ) (sig := sig) (Ix := HIx 1) (Val := Elt F) (Name := ℕ) (A := UH) (B := UK) (Lvl := ℕ) (a, b)) : sProp 𝕄)
      ⊢ BI.own ((EP : Emb (UR sig nD τ) 𝕄) a) :=
  (own_pair_emb embR a b).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (tbl m) (ids m)).x q thr) := by
  unfold u₀
  iintro Hu
  ihave H := (ownU_pair _ _) $$ Hu
  icases H with ⟨HH, HK⟩
  ihave HP := (own_pipes _ _) $$ HK
  imod (Pipeline.fund_ghost (Pipeline.pin (pcfgs (F := F)) adm) EP cellOf_inj) $$ HP with ⟨Hg, Ht⟩
  imodintro
  isplitl [HH]; · iexact HH
  isplitl [Hg Ht]
  · unfold ghosts
    rw [bigSep_sep', show (Finset.univ : Finset (Fin 2)) = {0, 1} by decide]
    simp only [SparseCore.bigSep_insert' (show (0 : Fin 2) ∉ ({1} : Finset (Fin 2)) by decide), bigSep_singleton]
    isplitl [Hg] <;> iassumption
  · rw [no_extra]; iempintro

/-! ## The run -/

/-- The arguments and the result. -/
abbrev S5 : Finset (DevRef τ sig) := {a0', a1', a2', a3', v6'}

theorem S5_sub : S5 ⊆ ucRefs τ sig := by decide

/-- A buffer held whole tells what the memory has there. -/
theorem held_reads (d : Dev nD) (W : Valuation τ sig (Elt F)) (s' : Phys nD τ sig (Elt F)) (b : DevRef τ sig) (hb : b ∈ ucRefs τ sig) :
    iprop(held (T d) (ucRefs τ sig) W ∗ SI s') ⊢ (⌜s'.mem.mem (d, b) = W b⌝ : sProp 𝕄) := by
  rw [StableHlo.held_sub_split (T d) (Finset.singleton_subset_iff.2 hb) W]
  unfold StableHlo.held
  rw [bigSep_singleton]
  iintro ⟨⟨Hx, -⟩, HSI⟩
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

def fq (d : Dev nD) (s' : Phys nD τ sig (Elt F)) : Prop := ∀ b ∈ S5, s'.mem.mem (d, b) = V7 m d b

theorem hfin (d : Dev nD) (s' : Phys nD τ sig (Elt F)) : iprop(FIN m d ∗ SI s') ⊢ (⌜fq m d s'⌝ : sProp 𝕄) := by
  unfold fq
  refine BIBase.Entails.trans (forall_intro fun b => ?_) pure_forall.2
  by_cases hb : b ∈ S5
  · exact (held_reads d (V7 m d) s' b (S5_sub hb)).trans (Laws.pure_mono fun h _ => h)
  · exact BIClass.pure_intro fun h => absurd h hb

theorem V7_arg (d : Dev nD) {b : DevRef τ sig} (h0 : b ≠ v0') (h1 : b ≠ v1') (h2 : b ≠ v2') (h3 : b ≠ v30') (h3' : b ≠ v31')
    (h4 : b ≠ v4') (h5 : b ≠ v5') (h6 : b ≠ v6') : V7 m d b = m (d, b) :=
  (V7_of m d h6).trans (V6_arg m d h0 h1 h2 h3 h3' h4 h5)

/-- The program from launch contents whose segment ids are all below 512: it ends, every argument as it was, the result
    the last kernel's, every semaphore counter at zero. -/
theorem run_main [∀ e, Nonempty (Elt F e)] (hid : ∀ d (j : S100000.Idx), (ids m d j).toNat < 512) :
    θ_run (Cert.KernelIdeal.defs (F := F)) (Cert.KernelIdeal.threads (F := F)) ⟨m, fun _ => 0, ρ⟩ fun r =>
      (∀ c : Dev nD, r.2.mem (c, a0') = m (c, a0') ∧ r.2.mem (c, a1') = m (c, a1') ∧ r.2.mem (c, a2') = m (c, a2') ∧ r.2.mem (c, a3') = m (c, a3')
        ∧ r.2.mem (c, v6') = V7 m c v6') ∧ r.2.sem = fun _ => 0 :=
  SparseCore.Cfg.θ_run_sc_quiescent (K := K (F := F)) (D := D (F := F)) (𝒱 := 𝒱) (EH := EH) (P := P (tbl m) (ids m)) (A := ∅) facts v₀
    (fun q hq => match q with | 0 => nomatch hq)
    (fun q _ => match q with | 0 => tileObl (tbl m) (ids m) hid)
    (fun q _ => match q with | 0 => SparseCore.Cfg.VecSplit.of_plain (vecSplit (tbl m) (ids m)))
    m ρ main (fun d => ghosts d) (FIN m) (u₀ (F := F)) (sep_elim_left.trans (hu₀ m)) (hmain m ρ) (fq m) (hfin m) _
    (fun _ h hz => ⟨fun c =>
      ⟨(h c a0' (by decide)).trans (V7_arg m c (by decide) (by decide) (by decide) (by decide) (by decide) (by decide) (by decide) (by decide)),
        (h c a1' (by decide)).trans (V7_arg m c (by decide) (by decide) (by decide) (by decide) (by decide) (by decide) (by decide) (by decide)),
        (h c a2' (by decide)).trans (V7_arg m c (by decide) (by decide) (by decide) (by decide) (by decide) (by decide) (by decide) (by decide)),
        (h c a3' (by decide)).trans (V7_arg m c (by decide) (by decide) (by decide) (by decide) (by decide) (by decide) (by decide) (by decide)),
        h c v6' (by decide)⟩, hz⟩)

end Cert.Proof.Seg

end
-- ==== Proof.Frames.lean ====
/-
  The two frames of the kernel: the precondition read as a bound on every segment id, and the run of the launch with
  its values dropped.
-/
module

public import proofs.«01_k».proof.Proof.Run
public import proofs.«01_k».proof.Proof.Gen.Kernel
public import proofs.«01_k».proof.Proof.Gen.Pre_in_range
public import proofs.«01_k».proof.Proof.Gen.Pre_finite
public import proofs.«01_k».proof.Proof.Gen.ReferenceIdeal.Run
public import Idealize.ShloMosaic.Lib.ReduceAll
public import Idealize.ShloMosaic.Lib.Quiescent

@[expose] public section

noncomputable section

namespace Cert.Proof.Seg

open Idealize.ShloMosaic Idealize.SL.Sem

theorem both_one (p q : BitVec 1) (h : IntOp.andi p q = 1#1) : p = 1#1 ∧ q = 1#1 := by
  revert p q; decide

/-- A word that is at least 0 and below 512, read with its sign, is a number below 512. -/
theorem word_lt (v : BitVec 32) (e : IntOp.andi (IntOp.cmpi .sge v 0#32) (IntOp.cmpi .slt v 512#32) = 1#1) : v.toNat < 512 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_in_range.S_.Idx := ⟨fun a b => funext fun i => i.elim0⟩
instance : Subsingleton Cert.Pre_finite.S_.Idx := ⟨fun a b => funext fun i => i.elim0⟩

theorem ids_lt {F : FTy → Type} [FloatOps F] [Cert.Pre_in_range.Facts] (x : FVec F Cert.Pre_in_range.S100000x128 .f32)
    (id : IVec Cert.Pre_in_range.S100000 32) (w b : FVec F Cert.Pre_in_range.S1 .f32)
    (h : Cert.Pre_in_range.fn x id w b = fun _ => 1#1) (j : Cert.Pre_in_range.S100000.Idx) : (id j).toNat < 512 :=
  word_lt _ (Host.reduce_andi_all _ _ _ _ (fun a => a.elim0) (congrFun h fun a => a.elim0) j)

/-- The stronger precondition asks for the same range of the segment ids. -/
theorem ids_lt_of_finite {F : FTy → Type} [FloatOps F] [Cert.Pre_finite.Facts] (x : FVec F Cert.Pre_finite.S100000x128 .f32)
    (id : IVec Cert.Pre_finite.S100000 32) (w b : FVec F Cert.Pre_finite.S1 .f32)
    (h : Cert.Pre_finite.fn x id w b = fun _ => 1#1) (j : Cert.Pre_finite.S100000.Idx) : (id j).toNat < 512 :=
  word_lt _ (Host.reduce_andi_all _ _ _ _ (fun a => a.elim0) (both_one _ _ (congrFun h fun a => a.elim0)).1 j)

/-- It asks also that the absolute value of every entry of `x` be below the word of `+∞`. -/
theorem abs_lt_of_finite {F : FTy → Type} [FloatOps F] [Cert.Pre_finite.Facts] (x : FVec F Cert.Pre_finite.S100000x128 .f32)
    (id : IVec Cert.Pre_finite.S100000 32) (w b : FVec F Cert.Pre_finite.S1 .f32)
    (h : Cert.Pre_finite.fn x id w b = fun _ => 1#1) (j : Cert.Pre_finite.S100000x128.Idx) :
    FloatOps.cmpf .olt (FloatOps.hostAbsf (x j)) (FloatOps.ofBits .f32 0x7F800000#32) = 1#1 :=
  Host.reduce_andi_all _ _ _ _ (fun a => a.elim0) (both_one _ _ (congrFun h fun a => a.elim0)).2 j

theorem frame_kernelIdeal : Cert.quiescent_KernelIdeal (hKernelIdeal := Cert.KernelIdeal.Gen.facts) (hPre_in_range := Cert.Pre_in_range.Gen.facts) :=
  fun m ρ hpre => (θ_run Cert.KernelIdeal.defs _ _).mono
    (fun _ h => ⟨fun c => ⟨(h.1 c).1, (h.1 c).2.1, (h.1 c).2.2.1, (h.1 c).2.2.2.1⟩, h.2⟩)
    (run_main (F := Ideal) m ρ fun d j => ids_lt _ _ _ _ (hpre d) j)

/-! The kernel as compiled and the kernel over the ideal values have the same text: first the bodies of the three
    calls, label by label, then the table of all bodies, then the threads. -/

section
attribute [local instance] Cert.KernelIdeal.Gen.facts Cert.Kernel.Gen.facts
variable {F : FTy → Type} [FloatOps F]

theorem bodies_same : (show Defs Cert.KernelIdeal.nD Cert.KernelIdeal.τ Cert.KernelIdeal.sig (Elt F) Cert.KernelIdeal.Λ₀ from Cert.Kernel.defs₀)
    = Cert.KernelIdeal.defs₀ := by
  funext p ℓ a
  rcases p with _ | _ | ⟨c, s⟩ <;> fin_cases ℓ
  all_goals first | (obtain ⟨t, s⟩ := a; rfl) | rfl

theorem pcfgs_same : (show Fin 2 → Pipeline.PCfg Cert.KernelIdeal.sig Cert.KernelIdeal.Λ₀ (Elt F) from Cert.Kernel.pcfgs) = Cert.KernelIdeal.pcfgs := by
  funext p
  fin_cases p <;> rfl

theorem defs_same : (show Defs Cert.KernelIdeal.nD Cert.KernelIdeal.τ Cert.KernelIdeal.sig (Elt F) _ from Cert.Kernel.defs (F := F))
    = Cert.KernelIdeal.defs (F := F) :=
  congrArg (fun d => Cert.KernelIdeal.sc.defs (Pipeline.defs Cert.KernelIdeal.pcfgs d)) bodies_same

set_option maxHeartbeats 4000000 in
theorem main_same : (show (d : Dev Cert.KernelIdeal.nD) → Prog (TpuEff Cert.KernelIdeal.nD Cert.KernelIdeal.τ Cert.KernelIdeal.sig (Elt F) _ .tc) PUnit from Cert.Kernel.main (F := F))
    = Cert.KernelIdeal.main (F := F) := by
  exact rfl

theorem threads_same : (show (c : Thread Cert.KernelIdeal.nD Cert.KernelIdeal.τ) → Prog (TpuEff Cert.KernelIdeal.nD Cert.KernelIdeal.τ Cert.KernelIdeal.sig (Elt F) _ c.2) PUnit from Cert.Kernel.threads (F := F))
    = Cert.KernelIdeal.threads (F := F) :=
  congrArg (fun d => Cert.KernelIdeal.sc.threads d) main_same

theorem run_kernel (m : (ℓ : Loc Cert.KernelIdeal.nD Cert.KernelIdeal.τ Cert.KernelIdeal.sig) → Buf (Elt F) ℓ) (ρ : Dev Cert.KernelIdeal.nD → PrngReg)
    [∀ e, Nonempty (Elt F e)] (hid : ∀ d (j : Cert.KernelIdeal.S100000.Idx), (ids m d j).toNat < 512) :
    θ_run (show Defs Cert.KernelIdeal.nD Cert.KernelIdeal.τ Cert.KernelIdeal.sig (Elt F) _ from Cert.Kernel.defs (F := F))
      (show (c : Thread Cert.KernelIdeal.nD Cert.KernelIdeal.τ) → Prog (TpuEff Cert.KernelIdeal.nD Cert.KernelIdeal.τ Cert.KernelIdeal.sig (Elt F) _ c.2) PUnit from Cert.Kernel.threads (F := F)) ⟨m, fun _ => 0, ρ⟩ fun r =>
      (∀ c : Dev Cert.KernelIdeal.nD, r.2.mem (c, a0') = m (c, a0') ∧ r.2.mem (c, a1') = m (c, a1') ∧ r.2.mem (c, a2') = m (c, a2') ∧ r.2.mem (c, a3') = m (c, a3'))
        ∧ r.2.sem = fun _ => 0 := by
  rw [defs_same, threads_same]
  exact (θ_run Cert.KernelIdeal.defs _ _).mono
    (fun _ h => ⟨fun c => ⟨(h.1 c).1, (h.1 c).2.1, (h.1 c).2.2.1, (h.1 c).2.2.2.1⟩, h.2⟩)
    (run_main m ρ hid)

end

theorem frame_kernelIdeal_finite : Cert.quiescent_KernelIdeal_pre_finite (hKernelIdeal := Cert.KernelIdeal.Gen.facts) (hPre_finite := Cert.Pre_finite.Gen.facts) :=
  fun m ρ hpre => (θ_run Cert.KernelIdeal.defs _ _).mono
    (fun _ h => ⟨fun c => ⟨(h.1 c).1, (h.1 c).2.1, (h.1 c).2.2.1, (h.1 c).2.2.2.1⟩, h.2⟩)
    (run_main (F := Ideal) m ρ fun d j => ids_lt_of_finite _ _ _ _ (hpre d) j)

/-- The reference declares no semaphore, so its counters are at zero at any time. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

theorem frame_kernel : Cert.quiescent_Kernel (hKernel := Cert.Kernel.Gen.facts) (hPre_in_range := Cert.Pre_in_range.Gen.facts) :=
  fun m ρ hpre => run_kernel (F := Bits) m ρ fun d j => ids_lt _ _ _ _ (hpre d) j

end Cert.Proof.Seg

end
-- ==== Proof.BlockValue.lean ====
/-
  The stats kernel over the extended reals, read at an index: the one-hot matrix of a block of segment ids, the block's
  sums of the values and of their squares, its counts, and what the accumulators hold after the last block.
-/
module

public import proofs.«01_k».proof.Proof.StatsRegion
public import Idealize.ShloMosaic.Lib.Pointwise

@[expose] public section

set_option maxRecDepth 16384

noncomputable section

namespace Cert.Proof.Seg

open Cert.KernelIdeal Cert.KernelIdeal.Gen
open Idealize.ShloMosaic

/-! ## Positions -/

theorem row_lt (b : Fin 50) (j : Fin 2000) : 2000 * b.val + j.val < 100000 := by omega
theorem lo_lt (k : Fin 128) : k.val < 256 := by omega
theorem hi_lt (k : Fin 128) : 128 + k.val < 256 := by omega

/-! ## One block -/

/-- One where a row's segment word is number `s`, zero elsewhere. -/
def hot (v : BitVec 32) (s : Fin 512) : EReal := if v = BitVec.ofNat 32 s.val then 1 else 0

/-- The comparison's word, widened and converted, is that number. -/
theorem hot_word (v : BitVec 32) (s : Fin 512) :
    (FloatOps.sitofp .f32 (BitVec.setWidth 32 (IntOp.cmpi .eq (BitVec.ofNat 32 s.val) v)) : Ideal .f32) = hot v s := by
  show (((BitVec.setWidth 32 (BitVec.ofBool (BitVec.ofNat 32 s.val == v))).toInt : ℝ) : EReal) = _
  unfold hot
  by_cases h : v = BitVec.ofNat 32 s.val
  · subst h; simp
  · have h' : (BitVec.ofNat 32 s.val == v) = false := by
      rw [beq_eq_false_iff_ne]; exact fun e => h e.symm
    rw [h', if_neg h]; simp

/-- Entry `(s, j)` of a block's one-hot matrix: one when row `j`'s segment is `s`. -/
theorem hot_at (v : IVec S1x1x2000 32) (s : Fin 512) (j : Fin 2000) :
    k0_pay1 (F := Ideal) v (ix2 s j) = hot (v (ix3 0 0 j)) s := by
  pointwise [k0_pay1]
  exact hot_word _ s

/-- A block's sums, in the values' columns. -/
theorem pay2_lo (x : FVec Ideal S2000x128 .f32) (v : IVec S1x1x2000 32) (s : Fin 512) (k : Fin 128) :
    k0_pay2 (F := Ideal) x v (ix2 s ⟨k.val, lo_lt k⟩) = ∑ j : Fin 2000, hot (v (ix3 0 0 j)) s * x (ix2 j k) := by
  pointwise [k0_pay2]
  refine Finset.sum_congr rfl fun j _ => ?_
  rw [hot_at]

/-- A block's sums, in the squares' columns. -/
theorem pay2_hi (x : FVec Ideal S2000x128 .f32) (v : IVec S1x1x2000 32) (s : Fin 512) (k : Fin 128) :
    k0_pay2 (F := Ideal) x v (ix2 s ⟨128 + k.val, hi_lt k⟩)
      = ∑ j : Fin 2000, hot (v (ix3 0 0 j)) s * (x (ix2 j k) * x (ix2 j k)) := by
  pointwise [k0_pay2]
  refine Finset.sum_congr rfl fun j _ => ?_
  rw [hot_at]

/-- A block's counts. -/
theorem pay3_at (v : IVec S1x1x2000 32) (s : Fin 512) (c : Fin 8) :
    k0_pay3 (F := Ideal) v (ix2 s c) = ∑ j : Fin 2000, hot (v (ix3 0 0 j)) s := by
  pointwise [k0_pay3]
  exact Finset.sum_congr rfl fun j _ => hot_at v s j

theorem pay4_at (x : FVec Ideal S2000x128 .f32) (v : IVec S1x1x2000 32) (i : S512x256.Idx) :
    k0_pay4 (F := Ideal) x v i = k0_pay2 x v i := by
  idx_vars i
  pointwise [k0_pay4]
theorem pay6_at (x : FVec Ideal S2000x128 .f32) (v : IVec S1x1x2000 32) (A : FVec Ideal S512x256 .f32) (i : S512x256.Idx) :
    k0_pay6 (F := Ideal) x v A i = A i + k0_pay2 x v i := by
  idx_vars i
  pointwise [k0_pay6]
theorem pay5_at (v : IVec S1x1x2000 32) (i : S512x8.Idx) : k0_pay5 (F := Ideal) v i = k0_pay3 v i := by
  idx_vars i
  pointwise [k0_pay5]
theorem pay7_at (v : IVec S1x1x2000 32) (A : FVec Ideal S512x8 .f32) (i : S512x8.Idx) :
    k0_pay7 (F := Ideal) v A i = A i + k0_pay3 v i := by
  idx_vars i
  pointwise [k0_pay7]

/-! ## All blocks -/

/-- Blocks of two thousand rows, summed one after another, are the rows summed. -/
theorem sum_blocks (f : ℕ → EReal) :
    ∑ b ∈ Finset.range 50, ∑ j : Fin 2000, f (2000 * b + j.val) = ∑ r : Fin 100000, f r.val := by
  rw [Finset.sum_range, ← Fintype.sum_prod_type' (f := fun (b : Fin 50) (j : Fin 2000) => f (2000 * b.val + j.val))]
  refine Fintype.sum_equiv (finProdFinEquiv (m := 50) (n := 2000)) _ (fun r : Fin 100000 => f r.val) fun p => ?_
  show _ = f (p.2.val + 2000 * p.1.val)
  rw [add_comm]

/-- What the accumulator's entry holds after block `n`. -/
theorem accAt_sum (x : S100000x128.Idx → Elt Ideal .f32) (g : S50x1x2000.Idx → Elt Ideal .i32) (i : S512x256.Idx) (n : ℕ) :
    accAt (F := Ideal) x g n i = ∑ b ∈ Finset.range (n + 1), k0_pay2 (F := Ideal) (rowsB x b) (perB g b) i := by
  induction n with
  | zero => rw [Finset.sum_range_one]; exact pay4_at _ _ i
  | succ n ih => rw [Finset.sum_range_succ, ← ih]; exact pay6_at _ _ _ i

/-- What the counts' entry holds after block `n`. -/
theorem cntAt_sum (g : S50x1x2000.Idx → Elt Ideal .i32) (i : S512x8.Idx) (n : ℕ) :
    cntAt (F := Ideal) g n i = ∑ b ∈ Finset.range (n + 1), k0_pay3 (F := Ideal) (perB (F := Ideal) g b) i := by
  induction n with
  | zero => rw [Finset.sum_range_one]; exact pay5_at _ i
  | succ n ih => rw [Finset.sum_range_succ, ← ih]; exact pay7_at _ _ i

section
variable (x : S100000x128.Idx → Elt Ideal .f32) (g : S50x1x2000.Idx → Elt Ideal .i32) (id : S100000.Idx → BitVec 32)
  (hg : ∀ (b : Fin 50) (j : Fin 2000), g (ix3 b 0 j) = id (ix1 ⟨2000 * b.val + j.val, row_lt b j⟩))
include hg

/-- A sum over blocks of a function of a row's segment word and its number is the sum over the rows. -/
theorem sum_rows (f : BitVec 32 → Fin 100000 → EReal) :
    ∑ b ∈ Finset.range 50, ∑ j : Fin 2000, f (g (blkIx b j.val)) ⟨(2000 * b + j.val) % 100000, Nat.mod_lt _ (by decide)⟩
      = ∑ r : Fin 100000, f (id (ix1 r)) r := by
  have e := sum_blocks fun r => f (id (ix1 ⟨r % 100000, Nat.mod_lt _ (by decide)⟩)) ⟨r % 100000, Nat.mod_lt _ (by decide)⟩
  have e2 : ∀ r : Fin 100000, (⟨r.val % 100000, Nat.mod_lt _ (by decide)⟩ : Fin 100000) = r := fun r =>
    Fin.ext (Nat.mod_eq_of_lt r.isLt)
  simp only [e2] at e
  rw [← e]
  refine Finset.sum_congr rfl fun b hb => Finset.sum_congr rfl fun j _ => ?_
  have hb' : b < 50 := Finset.mem_range.1 hb
  have e3 : blkIx b j.val = ix3 ⟨b, hb'⟩ 0 j := by
    funext a
    match a with
    | ⟨0, _⟩ => exact Fin.ext (Nat.mod_eq_of_lt hb')
    | ⟨1, _⟩ => rfl
    | ⟨2, _⟩ => exact Fin.ext (Nat.mod_eq_of_lt j.isLt)
  have e4 : (⟨(2000 * b + j.val) % 100000, Nat.mod_lt _ (by decide)⟩ : Fin 100000) = ⟨2000 * b + j.val, by omega⟩ :=
    Fin.ext (Nat.mod_eq_of_lt (by omega))
  rw [e3, hg ⟨b, hb'⟩ j, e4]

/-- The sums after the last block. -/
theorem acc_lo (s : Fin 512) (k : Fin 128) :
    accAt (F := Ideal) x g 49 (ix2 s ⟨k.val, lo_lt k⟩) = ∑ r : Fin 100000, hot (id (ix1 r)) s * x (ix2 r k) := by
  rw [accAt_sum, ← sum_rows g id hg fun v r => hot v s * x (ix2 r k)]
  refine Finset.sum_congr rfl fun b _ => (pay2_lo _ _ s k).trans (Finset.sum_congr rfl fun j _ => ?_)
  have e : rowIx (2000 * b + j.val) k.val = ix2 ⟨(2000 * b + j.val) % 100000, Nat.mod_lt _ (by decide)⟩ k := by
    funext a
    match a with
    | ⟨0, _⟩ => rfl
    | ⟨1, _⟩ => exact Fin.ext (Nat.mod_eq_of_lt k.isLt)
  show hot (g (blkIx b j.val)) s * x (rowIx (2000 * b + j.val) k.val) = _
  rw [e]

/-- The sums of squares after the last block. -/
theorem acc_hi (s : Fin 512) (k : Fin 128) :
    accAt (F := Ideal) x g 49 (ix2 s ⟨128 + k.val, hi_lt k⟩)
      = ∑ r : Fin 100000, hot (id (ix1 r)) s * ((x (ix2 r k) : EReal) * x (ix2 r k)) := by
  rw [accAt_sum, ← sum_rows g id hg fun v r => hot v s * ((x (ix2 r k) : EReal) * x (ix2 r k))]
  refine Finset.sum_congr rfl fun b _ => (pay2_hi _ _ s k).trans (Finset.sum_congr rfl fun j _ => ?_)
  have e : rowIx (2000 * b + j.val) k.val = ix2 ⟨(2000 * b + j.val) % 100000, Nat.mod_lt _ (by decide)⟩ k := by
    funext a
    match a with
    | ⟨0, _⟩ => rfl
    | ⟨1, _⟩ => exact Fin.ext (Nat.mod_eq_of_lt k.isLt)
  show hot (g (blkIx b j.val)) s * ((x (rowIx (2000 * b + j.val) k.val) : EReal) * x (rowIx (2000 * b + j.val) k.val)) = _
  rw [e]

/-- The counts after the last block. -/
theorem cnt_all (s : Fin 512) (c : Fin 8) :
    cntAt (F := Ideal) g 49 (ix2 s c) = ∑ r : Fin 100000, hot (id (ix1 r)) s := by
  rw [cntAt_sum, ← sum_rows g id hg fun v _ => hot v s]
  exact Finset.sum_congr rfl fun b _ => pay3_at _ s c

end

end Cert.Proof.Seg

end
-- ==== Proof.NormValue.lean ====
/-
  The norm kernel's blocks over the extended reals, read at an index.
-/
module

public import proofs.«01_k».proof.Proof.NormRegion
public import Idealize.ShloMosaic.Lib.Pointwise

@[expose] public section

set_option maxRecDepth 16384

noncomputable section

namespace Cert.Proof.Seg

open Cert.KernelIdeal Cert.KernelIdeal.Gen
open Idealize.ShloMosaic

/-- A block's result: row `r` less its mean, times its reciprocal deviation scaled by the weight, plus the bias. -/
theorem norm_at (x : FVec Ideal S2000x128 .f32) (mu rs : FVec Ideal S1x1x2000 .f32) (w b : EReal) (r : Fin 2000) (k : Fin 128) :
    k2_pay1 (F := Ideal) x mu rs w b (ix2 r k)
      = (x (ix2 r k) - mu (ix3 0 0 r)) * (rs (ix3 0 0 r) * w) + b := by
  pointwise [k2_pay1]

end Cert.Proof.Seg

end
-- ==== Proof.Equation.lean ====
/-
  The mathematics of the segment norm over the real numbers: a segment's row count, mean and variance, and why the mean
  of the squares less the squared mean is the mean of the squared distances.
-/
module

public import Idealize.ShloMosaic.PureOps.Ideal
public import Idealize.ShloMosaic.PureOps.Ideal.Laws
public import Mathlib.Tactic.FieldSimp
public import Mathlib.Tactic.Ring
public import Mathlib.Tactic.Linarith
public import Mathlib.Tactic.Positivity

@[expose] public section

noncomputable section

namespace Cert.Proof.Seg

open Idealize.ShloMosaic

/-! ## Extended reals that are real -/

/-- A sum of reals, taken in the extended reals. -/
theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

theorem coe_ite (p : Prop) [Decidable p] (a : ℝ) : (if p then (a : EReal) else 0) = ((if p then a else 0 : ℝ) : EReal) := by
  split <;> simp

theorem coe_max (a b : ℝ) : max (a : EReal) (b : EReal) = ((max a b : ℝ) : EReal) :=
  (Monotone.map_max (fun _ _ h => EReal.coe_le_coe_iff.2 h)).symm

/-- A quotient of reals by one that is not zero. -/
theorem div_real (a : ℝ) {y : ℝ} (h : y ≠ 0) : Ideal.div (a : EReal) (y : EReal) = ((a / y : ℝ) : EReal) := by
  rw [Ideal.div_coe h, ← EReal.coe_mul, mul_one_div]

/-- The literal 1. -/
theorem word_1 : Ideal.ofBits .f32 0x3F800000#32 = ((1 : ℝ) : EReal) := by
  simp [Ideal.ofBits, Ideal.ieee, -EReal.coe_mul]; norm_num

/-- The literal 128. -/
theorem word_128 : Ideal.ofBits .f32 0x43000000#32 = ((128 : ℝ) : EReal) := by
  simp [Ideal.ofBits, Ideal.ieee, -EReal.coe_mul]; norm_num

/-- The number the variances are shifted by: the literal next to 1e-5. -/
def eps : ℝ := (2 ^ 23 + 2606508 : ℕ) * (2 : ℝ) ^ (-40 : ℤ)

theorem eps_pos : 0 < eps := by unfold eps; positivity

theorem word_eps : Ideal.ofBits .f32 0x3727C5AC#32 = (eps : EReal) := by
  unfold eps
  simp [Ideal.ofBits, Ideal.ieee, -EReal.coe_mul]

/-! ## Counts, means, variances -/

/-- How many rows a segment has. -/
def rowsOf (I : Fin 100000 → Fin 512) (s : Fin 512) : ℕ := ∑ r : Fin 100000, if I r = s then 1 else 0

theorem rowsOf_le (I : Fin 100000 → Fin 512) (s : Fin 512) : rowsOf I s ≤ 100000 := by
  unfold rowsOf
  refine (Finset.sum_le_sum (g := fun _ => 1) fun r _ => ?_).trans (by simp)
  split <;> omega

/-- A segment with a row in it has at least one. -/
theorem rowsOf_pos (I : Fin 100000 → Fin 512) (r : Fin 100000) : 1 ≤ rowsOf I (I r) := by
  unfold rowsOf
  refine le_trans ?_ (Finset.single_le_sum (f := fun r' => if I r' = I r then 1 else 0) (fun _ _ => Nat.zero_le _) (Finset.mem_univ r))
  simp

section
variable (X : Fin 100000 → Fin 128 → ℝ) (I : Fin 100000 → Fin 512)

/-- The sum of an array over a segment's rows and all columns. -/
def segSum (Y : Fin 100000 → Fin 128 → ℝ) (s : Fin 512) : ℝ := ∑ k : Fin 128, ∑ r : Fin 100000, if I r = s then Y r k else 0

/-- The number of elements of a segment, an empty one taken to have a row. -/
def nrm (s : Fin 512) : ℝ := max (rowsOf I s : ℝ) 1 * 128

theorem nrm_pos (s : Fin 512) : 0 < nrm I s := by
  unfold nrm
  have : (1 : ℝ) ≤ max (rowsOf I s : ℝ) 1 := le_max_right _ _
  positivity

/-- A segment's mean. -/
def mean (s : Fin 512) : ℝ := segSum I X s / nrm I s

/-- The mean of the squares less the squared mean, not below zero. -/
def varSq (s : Fin 512) : ℝ := max (segSum I (fun r k => X r k * X r k) s / nrm I s - mean X I s * mean X I s) 0

/-- The mean of the squared distances to the mean. -/
def varDist (s : Fin 512) : ℝ :=
  segSum I (fun r k => (X r k - mean X I (I r)) * (X r k - mean X I (I r))) s / nrm I s

theorem varDist_nonneg (s : Fin 512) : 0 ≤ varDist X I s := by
  unfold varDist segSum
  refine div_nonneg (Finset.sum_nonneg fun k _ => Finset.sum_nonneg fun r _ => ?_) (nrm_pos I s).le
  split
  · exact mul_self_nonneg _
  · exact le_rfl

theorem segSum_one (s : Fin 512) : segSum I (fun _ _ => 1) s = 128 * (rowsOf I s : ℝ) := by
  unfold segSum rowsOf
  have e : ((∑ r : Fin 100000, if I r = s then 1 else 0 : ℕ) : ℝ) = ∑ r : Fin 100000, if I r = s then (1 : ℝ) else 0 := by
    rw [Nat.cast_sum]
    exact Finset.sum_congr rfl fun r _ => by split <;> simp
  rw [Finset.sum_const, Finset.card_univ, Fintype.card_fin, nsmul_eq_mul, e]
  rfl

/-- The squared distances, summed. -/
theorem segSum_dist (s : Fin 512) :
    segSum I (fun r k => (X r k - mean X I (I r)) * (X r k - mean X I (I r))) s
      = segSum I (fun r k => X r k * X r k) s - 2 * mean X I s * segSum I X s
        + mean X I s * mean X I s * segSum I (fun _ _ => 1) s := by
  generalize hm : mean X I = μ
  unfold segSum
  rw [Finset.mul_sum, Finset.mul_sum, ← Finset.sum_sub_distrib, ← Finset.sum_add_distrib]
  refine Finset.sum_congr rfl fun k _ => ?_
  rw [Finset.mul_sum, Finset.mul_sum, ← Finset.sum_sub_distrib, ← Finset.sum_add_distrib]
  refine Finset.sum_congr rfl fun r _ => ?_
  by_cases h : I r = s
  · simp only [h, if_true]; ring
  · simp only [if_neg h]; ring

/-- Of a segment that has a row, both variances are the same. -/
theorem var_eq (s : Fin 512) (h : 1 ≤ rowsOf I s) : varSq X I s = varDist X I s := by
  have hn : nrm I s = 128 * (rowsOf I s : ℝ) := by
    unfold nrm
    rw [max_eq_left (by exact_mod_cast h), mul_comm]
  have h0 := (nrm_pos I s).ne'
  have hs : segSum I X s = mean X I s * nrm I s := by unfold mean; field_simp
  have e : varDist X I s = segSum I (fun r k => X r k * X r k) s / nrm I s - mean X I s * mean X I s := by
    unfold varDist
    rw [segSum_dist, segSum_one, ← hn, hs]
    field_simp
    ring
  unfold varSq
  rw [← e, max_eq_left (varDist_nonneg X I s)]

/-! ## One element of the result -/

/-- The kernel's element, by the reciprocal root, is the reference's, by the root. -/
theorem elem_eq (r : Fin 100000) (k : Fin 128) (w b : EReal) :
    ((X r k : ℝ) - (mean X I (I r) : ℝ) : EReal) * (Ideal.rsqrt ((varSq X I (I r) : EReal) + (eps : EReal)) * w) + b
      = Ideal.div ((X r k : ℝ) - (mean X I (I r) : ℝ) : EReal) (Ideal.sqrt ((varDist X I (I r) : EReal) + (eps : EReal))) * w + b := by
  rw [var_eq X I (I r) (rowsOf_pos I r), ← EReal.coe_add]
  have hq : 0 < varDist X I (I r) + eps := add_pos_of_nonneg_of_pos (varDist_nonneg X I _) eps_pos
  generalize varDist X I (I r) + eps = q at hq
  rw [Ideal.rsqrt_coe, Ideal.sqrt_coe, if_neg hq.not_gt, if_neg hq.ne', if_neg hq.not_gt,
    Ideal.div_coe (Real.sqrt_pos.2 hq).ne', one_div, mul_assoc]

end

end Cert.Proof.Seg

end
-- ==== Proof.KernelValue.lean ====
/-
  What the kernel computes: the table of the segments' means and reciprocal deviations, the two gathered to the rows,
  and the rows normalised; each read at an index, of finite rows and segment numbers below 512.
-/
module

public import proofs.«01_k».proof.Proof.BlockValue
public import proofs.«01_k».proof.Proof.NormValue
public import proofs.«01_k».proof.Proof.Equation
public import proofs.«01_k».proof.Proof.Main

@[expose] public section

set_option maxRecDepth 16384

noncomputable section

namespace Cert.Proof.Seg

open Cert.KernelIdeal Cert.KernelIdeal.Gen
open Idealize.ShloMosaic Idealize.ShloMosaic.TcCoe

/-! ## The table -/

/-- The table's first row: sums over counts. -/
theorem pay8_mean (a b : FVec Ideal S512x128 .f32) (n : FVec Ideal S512x1 .f32) (s : Fin 512) :
    (k0_pay8 (F := Ideal) a b n (ix2 0 s) : EReal)
      = Ideal.div (∑ k : Fin 128, (a (ix2 s k) : EReal)) (max (n (ix2 s 0)) 1 * Ideal.ofBits .f32 0x43000000#32) := by
  pointwise [k0_pay8]

/-- The table's second row: the reciprocal root of the shifted variance. -/
theorem pay8_rstd (a b : FVec Ideal S512x128 .f32) (n : FVec Ideal S512x1 .f32) (s : Fin 512) :
    (k0_pay8 (F := Ideal) a b n (ix2 1 s) : EReal)
      = Ideal.rsqrt (max (Ideal.div (∑ k : Fin 128, (b (ix2 s k) : EReal)) (max (n (ix2 s 0)) 1 * Ideal.ofBits .f32 0x43000000#32)
            - Ideal.div (∑ k : Fin 128, (a (ix2 s k) : EReal)) (max (n (ix2 s 0)) 1 * Ideal.ofBits .f32 0x43000000#32)
              * Ideal.div (∑ k : Fin 128, (a (ix2 s k) : EReal)) (max (n (ix2 s 0)) 1 * Ideal.ofBits .f32 0x43000000#32)) 0
          + Ideal.ofBits .f32 0x3727C5AC#32) := by
  pointwise [k0_pay8]
  rfl

theorem sumCols_at (A : S512x256.Idx → Elt Ideal .f32) (s : Fin 512) (k : Fin 128) :
    sumCols A (ix2 s k) = A (ix2 s ⟨k.val, lo_lt k⟩) := by
  refine congrArg A (funext fun a => ?_)
  match a with
  | ⟨0, _⟩ => exact Fin.ext (by show 0 + 1 * s.val = s.val; omega)
  | ⟨1, _⟩ => exact Fin.ext (by show 0 + 1 * k.val = k.val; omega)

theorem sqCols_at (A : S512x256.Idx → Elt Ideal .f32) (s : Fin 512) (k : Fin 128) :
    sqCols A (ix2 s k) = A (ix2 s ⟨128 + k.val, hi_lt k⟩) := by
  refine congrArg A (funext fun a => ?_)
  match a with
  | ⟨0, _⟩ => exact Fin.ext (by show 0 + 1 * s.val = s.val; omega)
  | ⟨1, _⟩ => exact Fin.ext (by show 128 + 1 * k.val = 128 + k.val; omega)

theorem cntCol_at (C : S512x8.Idx → Elt Ideal .f32) (s : Fin 512) : cntCol C (ix2 s 0) = C (ix2 s 0) := by
  refine congrArg C (funext fun a => ?_)
  match a with
  | ⟨0, _⟩ => exact Fin.ext (by show 0 + 1 * s.val = s.val; omega)
  | ⟨1, _⟩ => rfl

section
variable (x : S100000x128.Idx → Elt Ideal .f32) (id : S100000.Idx → BitVec 32)
  (X : Fin 100000 → Fin 128 → ℝ) (I : Fin 100000 → Fin 512)
  (hx : ∀ r k, x (ix2 r k) = (X r k : EReal)) (hI : ∀ r, id (ix1 r) = BitVec.ofNat 32 (I r).val)

/-- The segment words in fifty blocks. -/
def blkIds {F : FTy → Type} (id : S100000.Idx → BitVec 32) : S50x1x2000.Idx → Elt F .i32 :=
  shapeCast S50x1x2000 id shapeCasts_S100000_S50x1x2000

theorem blk_at {α : Type} (f : S100000.Idx → α) (b : Fin 50) (j : Fin 2000) :
    shapeCast S50x1x2000 f shapeCasts_S100000_S50x1x2000 (ix3 b 0 j) = f (ix1 ⟨2000 * b.val + j.val, row_lt b j⟩) := by
  pointwise
  exact congrArg (fun q => f (ix1 q)) (Fin.ext (by show b.val * 2000 + j.val = 2000 * b.val + j.val; omega))

include hI in
theorem hot_of (r : Fin 100000) (s : Fin 512) : hot (id (ix1 r)) s = ((if I r = s then 1 else 0 : ℝ) : EReal) := by
  unfold hot
  rw [hI r]
  have q : BitVec.ofNat 32 (I r).val = BitVec.ofNat 32 s.val ↔ I r = s := by
    constructor
    · intro e
      have e' := congrArg BitVec.toNat e
      rw [BitVec.toNat_ofNat, BitVec.toNat_ofNat, Nat.mod_eq_of_lt (by omega), Nat.mod_eq_of_lt (by omega)] at e'
      exact Fin.ext e'
    · intro e; rw [e]
  by_cases h : I r = s
  · rw [if_pos (q.2 h), if_pos h, EReal.coe_one]
  · rw [if_neg fun c => h (q.1 c), if_neg h, EReal.coe_zero]

include hI in
theorem hot_sum (Y : Fin 100000 → ℝ) (s : Fin 512) :
    ∑ r : Fin 100000, hot (id (ix1 r)) s * (Y r : EReal) = ((∑ r : Fin 100000, if I r = s then Y r else 0 : ℝ) : EReal) := by
  rw [coe_sum]
  refine Finset.sum_congr rfl fun r _ => ?_
  rw [hot_of id I hI, ← EReal.coe_mul]
  congr 1
  split <;> simp

include hI in
theorem count_sum (s : Fin 512) : ∑ r : Fin 100000, hot (id (ix1 r)) s = ((rowsOf I s : ℝ) : EReal) := by
  have e : ((∑ r : Fin 100000, if I r = s then 1 else 0 : ℕ) : ℝ) = ∑ r : Fin 100000, if I r = s then (1 : ℝ) else 0 := by
    rw [Nat.cast_sum]
    exact Finset.sum_congr rfl fun r _ => by split <;> simp
  unfold rowsOf
  rw [e, coe_sum]
  exact Finset.sum_congr rfl fun r _ => hot_of id I hI r s

include hI in
theorem nrm_k (s : Fin 512) :
    (max (cntCol (cntAt (F := Ideal) (blkIds id) 49) (ix2 s 0) : EReal) 1 * Ideal.ofBits .f32 0x43000000#32 : EReal) = (nrm I s : EReal) := by
  rw [cntCol_at, cnt_all (blkIds id) id (blk_at id), count_sum id I hI, word_128, ← EReal.coe_one, coe_max, ← EReal.coe_mul]
  rfl

include hx hI in
theorem sum_k (s : Fin 512) :
    ∑ k : Fin 128, (sumCols (accAt (F := Ideal) x (blkIds id) 49) (ix2 s k) : EReal) = (segSum I X s : EReal) := by
  unfold segSum
  rw [coe_sum]
  refine Finset.sum_congr rfl fun k _ => ?_
  rw [sumCols_at, acc_lo x (blkIds id) id (blk_at id), ← hot_sum id I hI fun r => X r k]
  exact Finset.sum_congr rfl fun r _ => by rw [hx]

include hx hI in
theorem sq_k (s : Fin 512) :
    ∑ k : Fin 128, (sqCols (accAt (F := Ideal) x (blkIds id) 49) (ix2 s k) : EReal) = (segSum I (fun r k => X r k * X r k) s : EReal) := by
  unfold segSum
  rw [coe_sum]
  refine Finset.sum_congr rfl fun k _ => ?_
  rw [sqCols_at, acc_hi x (blkIds id) id (blk_at id), ← hot_sum id I hI fun r => X r k * X r k]
  exact Finset.sum_congr rfl fun r _ => by rw [hx, EReal.coe_mul]

include hx hI in
/-- The table's first row holds the means. -/
theorem table_mean (s : Fin 512) : (table (F := Ideal) x (blkIds id) (ix2 0 s) : EReal) = (mean X I s : EReal) := by
  refine (pay8_mean _ _ _ s).trans ?_
  rw [sum_k x id X I hx hI, nrm_k id I hI, div_real _ (nrm_pos I s).ne']
  rfl

include hx hI in
/-- The table's second row holds the reciprocal deviations. -/
theorem table_rstd (s : Fin 512) :
    (table (F := Ideal) x (blkIds id) (ix2 1 s) : EReal) = Ideal.rsqrt ((varSq X I s : EReal) + (eps : EReal)) := by
  refine (pay8_rstd _ _ _ s).trans ?_
  rw [sum_k x id X I hx hI, sq_k x id X I hx hI, nrm_k id I hI, div_real _ (nrm_pos I s).ne', div_real _ (nrm_pos I s).ne', word_eps,
    ← EReal.coe_mul, ← EReal.coe_sub, ← EReal.coe_zero, coe_max]
  rfl

end

/-! ## The whole kernel -/

section
variable {F : FTy → Type} [FloatOps F]

/-- The table, flat. -/
def flatTable (x : S100000x128.Idx → Elt F .f32) (id : S100000.Idx → BitVec 32) : S4096.Idx → Elt F .f32 :=
  shapeCast S4096 (table x (blkIds id)) shapeCasts_S8x512_S4096

/-- The gathered means and reciprocal deviations. -/
def rowMu (x : S100000x128.Idx → Elt F .f32) (id : S100000.Idx → BitVec 32) : S100000.Idx → Elt F .f32 :=
  fun j => flatTable x id (tbIx (id j).toNat)
def rowRs (x : S100000x128.Idx → Elt F .f32) (id : S100000.Idx → BitVec 32) : S100000.Idx → Elt F .f32 :=
  fun j => flatTable x id (tbIx ((id j).toNat + 512))

/-- The kernel's result. -/
def kOut (x : S100000x128.Idx → Elt F .f32) (id : S100000.Idx → BitVec 32) (w b : S1.Idx → Elt F .f32) : S100000x128.Idx → Elt F .f32 :=
  normed x (shapeCast S50x1x2000 (rowMu x id) shapeCasts_S100000_S50x1x2000)
    (shapeCast S50x1x2000 (rowRs x id) shapeCasts_S100000_S50x1x2000) w b

end

section
variable (x : S100000x128.Idx → Elt Ideal .f32) (id : S100000.Idx → BitVec 32)

theorem flat_lo (s : Fin 512) : flatTable (F := Ideal) x id (tbIx s.val) = table (F := Ideal) x (blkIds id) (ix2 0 s) := by
  have e : tbIx s.val = ix1 ⟨s.val, by omega⟩ := by
    funext a
    match a with
    | ⟨0, _⟩ => exact Fin.ext (Nat.mod_eq_of_lt (by have := s.isLt; omega))
  rw [e]
  pointwise [flatTable]
  refine congrArg (table (F := Ideal) x (blkIds id)) ((ix2_inj _ _ _ _).2 ⟨Fin.ext ?_, Fin.ext ?_⟩)
  · exact Nat.div_eq_of_lt s.isLt
  · exact Nat.mod_eq_of_lt s.isLt

theorem flat_hi (s : Fin 512) : flatTable (F := Ideal) x id (tbIx (s.val + 512)) = table (F := Ideal) x (blkIds id) (ix2 1 s) := by
  have e : tbIx (s.val + 512) = ix1 ⟨s.val + 512, by omega⟩ := by
    funext a
    match a with
    | ⟨0, _⟩ => exact Fin.ext (Nat.mod_eq_of_lt (by have := s.isLt; omega))
  rw [e]
  pointwise [flatTable]
  refine congrArg (table (F := Ideal) x (blkIds id)) ((ix2_inj _ _ _ _).2 ⟨Fin.ext ?_, rfl⟩)
  show (s.val + 512) / 512 = 1
  have := s.isLt
  omega

/-- The result's element, from the row's mean and reciprocal deviation. -/
theorem kOut_at (w b : S1.Idx → Elt Ideal .f32) (r : Fin 100000) (k : Fin 128) :
    (kOut (F := Ideal) x id w b (ix2 r k) : EReal)
      = ((x (ix2 r k) : EReal) - (rowMu (F := Ideal) x id (ix1 r) : EReal)) * ((rowRs (F := Ideal) x id (ix1 r) : EReal) * (w (ix1 0) : EReal))
        + (b (ix1 0) : EReal) := by
  have hr := r.isLt
  have hd : r.val / 2000 < 50 := by omega
  have e1 : inB r.val k.val = ix2 ⟨r.val % 2000, Nat.mod_lt _ (by decide)⟩ k := by
    funext a
    match a with
    | ⟨0, _⟩ => rfl
    | ⟨1, _⟩ => exact Fin.ext (Nat.mod_eq_of_lt k.isLt)
  have e2 : ∀ j : Fin 2000, blkIx (r.val / 2000) j.val = ix3 ⟨r.val / 2000, hd⟩ 0 j := fun j => by
    funext a
    match a with
    | ⟨0, _⟩ => exact Fin.ext (Nat.mod_eq_of_lt hd)
    | ⟨1, _⟩ => rfl
    | ⟨2, _⟩ => exact Fin.ext (Nat.mod_eq_of_lt j.isLt)
  have e3 : rowIx (2000 * (r.val / 2000) + r.val % 2000) k.val = ix2 r k := by
    funext a
    match a with
    | ⟨0, _⟩ => exact Fin.ext (by show (2000 * (r.val / 2000) + r.val % 2000) % 100000 = r.val; omega)
    | ⟨1, _⟩ => exact Fin.ext (Nat.mod_eq_of_lt k.isLt)
  have e4 : ∀ f : S100000.Idx → EReal, perB (F := Ideal) (e := .f32) (shapeCast S50x1x2000 f shapeCasts_S100000_S50x1x2000) (r.val / 2000)
      (ix3 0 0 ⟨r.val % 2000, Nat.mod_lt _ (by decide)⟩) = f (ix1 r) := fun f => by
    show shapeCast S50x1x2000 f shapeCasts_S100000_S50x1x2000 (blkIx (r.val / 2000) (r.val % 2000)) = _
    rw [e2 ⟨r.val % 2000, Nat.mod_lt _ (by decide)⟩, blk_at]
    exact congrArg (fun q => f (ix1 q)) (Fin.ext (by show 2000 * (r.val / 2000) + r.val % 2000 = r.val; omega))
  have e5 : (one0 : S1.Idx) = ix1 0 := by
    funext a
    match a with
    | ⟨0, _⟩ => rfl
  show normB x _ _ w b (r.val / 2000) (inB r.val k.val) = _
  rw [e1]
  refine (norm_at _ _ _ _ _ _ _).trans ?_
  rw [e4 (rowMu (F := Ideal) x id), e4 (rowRs (F := Ideal) x id), e5]
  show ((x (rowIx (2000 * (r.val / 2000) + r.val % 2000) k.val) : EReal) - _) * _ + _ = _
  rw [e3]

/-- The kernel's result at row `r`, column `k`. -/
theorem kernel_at (X : Fin 100000 → Fin 128 → ℝ) (I : Fin 100000 → Fin 512)
    (hx : ∀ r k, x (ix2 r k) = (X r k : EReal)) (hI : ∀ r, id (ix1 r) = BitVec.ofNat 32 (I r).val)
    (w b : S1.Idx → Elt Ideal .f32) (r : Fin 100000) (k : Fin 128) :
    (kOut (F := Ideal) x id w b (ix2 r k) : EReal)
      = ((X r k : ℝ) - (mean X I (I r) : ℝ) : EReal) * (Ideal.rsqrt ((varSq X I (I r) : EReal) + (eps : EReal)) * (w (ix1 0) : EReal))
        + (b (ix1 0) : EReal) := by
  have hn : (id (ix1 r)).toNat = (I r).val := by
    have := (I r).isLt
    rw [hI r, BitVec.toNat_ofNat, Nat.mod_eq_of_lt (by omega)]
  rw [kOut_at, hx]
  unfold rowMu rowRs
  rw [hn, flat_lo, flat_hi, table_mean x id X I hx hI, table_rstd x id X I hx hI]

end

end Cert.Proof.Seg

end
-- ==== Proof.RefRead.lean ====
/-
  The reference's scatters and gathers, read at an index: where the segment words are numbers below 512, a scatter of
  the rows adds row `r` at its segment, a scatter of ones counts the rows, and a gather reads the row's segment.
-/
module

public import proofs.«01_k».proof.Proof.Gen.ReferenceIdeal
public import proofs.«01_k».proof.Proof.Equation
public import Idealize.ShloMosaic.Lib.Pointwise

@[expose] public section

set_option maxRecDepth 16384

noncomputable section

namespace Cert.Proof.Seg

open Cert.ReferenceIdeal Cert.ReferenceIdeal.Gen
open Idealize.ShloMosaic

/-! ## Segment words -/

/-- A word below 512 is not negative. -/
theorem slt_zero_of_lt (v : BitVec 32) (h : v.toNat < 512) : v.slt 0#32 = false := by
  rw [BitVec.slt_eq_decide, decide_eq_false_iff_not, BitVec.toInt_eq_toNat_of_lt (by omega)]
  simp

theorem toInt_of_lt (v : BitVec 32) (h : v.toNat < 512) : v.toInt = (v.toNat : ℤ) :=
  BitVec.toInt_eq_toNat_of_lt (by omega)

/-- The greater of zero and a word below 512 is the word. -/
theorem maxsi_zero (v : BitVec 32) (h : v.toNat < 512) : IntOp.maxsi 0#32 v = v := by
  unfold IntOp.maxsi
  rw [slt_zero_of_lt v h]; rfl

/-- Wrapping a negative index leaves a word below 512. -/
theorem wrap_word (v u : BitVec 32) (h : v.toNat < 512) : Scalar.select (IntOp.cmpi .slt v 0#32) u v = v := by
  have e : IntOp.cmpi .slt v 0#32 = 0#1 := by
    show BitVec.ofBool (v.slt 0#32) = 0#1
    rw [slt_zero_of_lt v h]; rfl
  rw [e]; rfl

/-! ## Where an update lands -/

/-- An update lands where its start and its window coordinate say, when that is an index. -/
theorem lands {s si u : Shape} (d : ScatterDims s si u) (j : u.Idx) (idx : IVec si 32) (i : s.Idx)
    (h : ∀ a, d.start j idx a + (d.window j a : ℤ) = ((i a).val : ℤ)) : d.resultIdx? j idx = some i := by
  unfold ScatterDims.resultIdx?
  have hh : ∀ a, 0 ≤ d.start j idx a + (d.window j a : ℤ) ∧ d.start j idx a + (d.window j a : ℤ) < (s.size a : ℤ) := fun a => by
    rw [h a]; exact ⟨by omega, by exact_mod_cast (i a).isLt⟩
  rw [dif_pos hh]
  exact congrArg some (funext fun a => Fin.ext (by show (d.start j idx a + (d.window j a : ℤ)).toNat = _; rw [h a]; simp))

section
variable (idx : IVec S100000x1 32) (I : Fin 100000 → Fin 512) (hI : ∀ r, (idx (ix2 r 0)).toInt = ((I r).val : ℤ))
include hI

/-- Update `r` of the counting scatter lands at row `r`'s segment. -/
theorem lands_count (r : Fin 100000) :
    scatter_S512_S100000x1_S100000_n_0_0_1.resultIdx? (ix1 r) idx = some (ix1 (I r)) := by
  refine lands _ _ _ _ fun a => ?_
  match a with
  | ⟨0, _⟩ =>
    have hs : scatter_S512_S100000x1_S100000_n_0_0_1.start (ix1 r) idx 0 = (idx (ix2 r 0)).toInt := by
      unfold ScatterDims.start
      rw [dif_pos (by decide)]
      refine congrArg (fun i => (idx i).toInt) (funext fun b => ?_)
      match b with
      | ⟨0, _⟩ => rfl
      | ⟨1, _⟩ => rfl
    have hw : scatter_S512_S100000x1_S100000_n_0_0_1.window (ix1 r) 0 = 0 := by
      unfold ScatterDims.window
      rw [dif_neg (by decide)]
    show scatter_S512_S100000x1_S100000_n_0_0_1.start (ix1 r) idx 0 + (scatter_S512_S100000x1_S100000_n_0_0_1.window (ix1 r) 0 : ℤ) = _
    rw [hs, hw, hI r]; simp

/-- Update `(r, k)` of the summing scatter lands at row `r`'s segment, column `k`. -/
theorem lands_sum (r : Fin 100000) (k : Fin 128) :
    scatter_S512x128_S100000x1_S100000x128_1_0_0_1.resultIdx? (ix2 r k) idx = some (ix2 (I r) k) := by
  refine lands _ _ _ _ fun a => ?_
  match a with
  | ⟨0, _⟩ =>
    have hs : scatter_S512x128_S100000x1_S100000x128_1_0_0_1.start (ix2 r k) idx 0 = (idx (ix2 r 0)).toInt := by
      unfold ScatterDims.start
      rw [dif_pos (by decide)]
      refine congrArg (fun i => (idx i).toInt) (funext fun b => ?_)
      match b with
      | ⟨0, _⟩ => rfl
      | ⟨1, _⟩ => rfl
    have hw : scatter_S512x128_S100000x1_S100000x128_1_0_0_1.window (ix2 r k) 0 = 0 := by
      unfold ScatterDims.window
      rw [dif_neg (by decide)]
    show scatter_S512x128_S100000x1_S100000x128_1_0_0_1.start (ix2 r k) idx 0
      + (scatter_S512x128_S100000x1_S100000x128_1_0_0_1.window (ix2 r k) 0 : ℤ) = _
    rw [hs, hw, hI r]; simp
  | ⟨1, _⟩ =>
    have hs : scatter_S512x128_S100000x1_S100000x128_1_0_0_1.start (ix2 r k) idx 1 = 0 := by
      unfold ScatterDims.start
      rw [dif_neg (by decide)]
    have hw : scatter_S512x128_S100000x1_S100000x128_1_0_0_1.window (ix2 r k) 1 = k.val := by
      unfold ScatterDims.window
      rw [dif_pos (by decide)]
      rfl
    show scatter_S512x128_S100000x1_S100000x128_1_0_0_1.start (ix2 r k) idx 1
      + (scatter_S512x128_S100000x1_S100000x128_1_0_0_1.window (ix2 r k) 1 : ℤ) = _
    rw [hs, hw]; simp

end

/-! ## The sums -/

/-- The updates that land at `i`, summed: over all updates, those that do. -/
theorem sum_landing {α β : Type} [Fintype α] [DecidableEq β] (L : α → Option β) (i : β) (f : α → EReal) :
    ∑ j ∈ Finset.univ.filter (fun j => L j = some i), f j = ∑ j, if L j = some i then f j else 0 :=
  Finset.sum_filter _ _

/-- The summing scatter from zero, read at segment `s`, column `k`: the column over the segment's rows. -/
theorem scatterAdd_at (x : FVec Ideal S512x128 .f32) (hx : ∀ i, x i = 0) (idx : IVec S100000x1 32)
    (I : Fin 100000 → Fin 512) (hI : ∀ r, (idx (ix2 r 0)).toInt = ((I r).val : ℤ))
    (u : FVec Ideal S100000x128 .f32) (s : Fin 512) (k : Fin 128) :
    Host.scatterAdd scatter_S512x128_S100000x1_S100000x128_1_0_0_1 x idx u (ix2 s k)
      = ∑ r : Fin 100000, if I r = s then (u (ix2 r k) : EReal) else 0 := by
  show (x (ix2 s k) : EReal) + ∑ j ∈ Finset.univ.filter (fun j => scatter_S512x128_S100000x1_S100000x128_1_0_0_1.resultIdx? j idx = some (ix2 s k)), (u j : EReal) = _
  rw [hx, zero_add, sum_landing, sum_idx2]
  refine Finset.sum_congr rfl fun r _ => ?_
  have e : ∀ k' : Fin 128, (if scatter_S512x128_S100000x1_S100000x128_1_0_0_1.resultIdx? (ix2 r k') idx = some (ix2 s k) then (u (ix2 r k') : EReal) else 0)
      = if k' = k then (if I r = s then (u (ix2 r k) : EReal) else 0) else 0 := fun k' => by
    have q : scatter_S512x128_S100000x1_S100000x128_1_0_0_1.resultIdx? (ix2 r k') idx = some (ix2 s k) ↔ I r = s ∧ k' = k := by
      rw [lands_sum idx I hI r k', Option.some_inj, ix2_inj]
    by_cases h : k' = k
    · subst h
      by_cases h2 : I r = s
      · rw [if_pos (q.2 ⟨h2, rfl⟩), if_pos rfl, if_pos h2]
      · rw [if_neg fun c => h2 (q.1 c).1, if_pos rfl, if_neg h2]
    · rw [if_neg fun c => h (q.1 c).2, if_neg h]
  rw [Finset.sum_congr rfl fun k' _ => e k']
  simp

/-! ## The counts -/

/-- A fold whose steps add one at `i` for the items with a property, read at `i`. -/
theorem fold_ones {α β : Type} (p : α → Prop) [DecidablePred p] (i : β) (step : (β → BitVec 32) → α → β → BitVec 32)
    (hstep : ∀ r n, step r n i = r i + BitVec.ofNat 32 (if p n then 1 else 0)) (l : List α) :
    ∀ r : β → BitVec 32, l.foldl step r i = r i + BitVec.ofNat 32 (l.map fun n => if p n then 1 else 0).sum := by
  induction l with
  | nil => intro r; simp
  | cons n l ih =>
    intro r
    rw [List.foldl_cons, ih, hstep, List.map_cons, List.sum_cons, BitVec.ofNat_add, BitVec.add_assoc]

/-- A list of a shape's positions in row-major order, summed: the sum over its indices. -/
theorem sum_items {s : Shape} (f : s.Idx → ℕ) :
    ((List.finRange s.numel).map fun n => f (s.rowMajor.symm n)).sum = ∑ j : s.Idx, f j := by
  rw [← Fin.sum_univ_def]
  exact Fintype.sum_equiv s.rowMajor.symm _ _ fun _ => rfl

/-- A scatter of ones, read at one place: what was there and one for each update that lands there. -/
theorem scatter_ones {s si u : Shape} (d : ScatterDims s si u) (x : IVec s 32) (idx : IVec si 32) (i : s.Idx) :
    Host.scatter d IntOp.addi x idx (fun _ => 1#32) i
      = x i + BitVec.ofNat 32 (∑ j : u.Idx, if d.resultIdx? j idx = some i then 1 else 0) := by
  unfold Host.scatter
  refine (fold_ones (fun n => d.resultIdx? (u.rowMajor.symm n) idx = some i) i _ (fun r n => ?_) _ x).trans ?_
  · cases h : d.resultIdx? (u.rowMajor.symm n) idx with
    | none => simp
    | some i' =>
      by_cases e : i = i'
      · subst e; simp [IntOp.addi]
      · have e' : i' ≠ i := fun c => e c.symm
        simp [e, e']
  · rw [← sum_items fun j => if d.resultIdx? j idx = some i then 1 else 0]

/-- The counting scatter of ones from zero, read at segment `s`: the number of its rows. -/
theorem scatter_count (x : IVec S512 32) (hx : ∀ i, x i = 0#32) (idx : IVec S100000x1 32)
    (I : Fin 100000 → Fin 512) (hI : ∀ r, (idx (ix2 r 0)).toInt = ((I r).val : ℤ))
    (u : IVec S100000 32) (hu : ∀ i, u i = 1#32) (s : Fin 512) :
    Host.scatter scatter_S512_S100000x1_S100000_n_0_0_1 IntOp.addi x idx u (ix1 s) = BitVec.ofNat 32 (rowsOf I s) := by
  obtain rfl : u = fun _ => 1#32 := funext hu
  rw [scatter_ones, hx, BitVec.zero_add]
  refine congrArg (BitVec.ofNat 32) ?_
  rw [sum_idx1]
  refine Finset.sum_congr rfl fun r _ => ?_
  have q : scatter_S512_S100000x1_S100000_n_0_0_1.resultIdx? (ix1 r) idx = some (ix1 s) ↔ I r = s := by
    rw [lands_count idx I hI r, Option.some_inj, ix1_inj]
  by_cases h : I r = s
  · rw [if_pos (q.2 h), if_pos h]
  · rw [if_neg fun c => h (q.1 c), if_neg h]

/-- The count converted is the count. -/
theorem count_real (I : Fin 100000 → Fin 512) (s : Fin 512) :
    (FloatOps.sitofp .f32 (BitVec.ofNat 32 (rowsOf I s)) : Ideal .f32) = (((rowsOf I s : ℕ) : ℝ) : EReal) := by
  show ((((BitVec.ofNat 32 (rowsOf I s)).toInt : ℤ) : ℝ) : EReal) = _
  have h := rowsOf_le I s
  have e : (BitVec.ofNat 32 (rowsOf I s)).toInt = ((rowsOf I s : ℕ) : ℤ) := by
    rw [BitVec.toInt_eq_toNat_of_lt (by rw [BitVec.toNat_ofNat]; omega), BitVec.toNat_ofNat, Nat.mod_eq_of_lt (by omega)]
  rw [e, Int.cast_natCast]

/-! ## The gather -/

/-- The gather of one entry per row, read at row `r`: the entry of its segment. -/
theorem gather_at {α : Type} (t : S512x1.Idx → α) (idx : IVec S100000x1 32) (r : Fin 100000) (s : Fin 512)
    (hI : (idx (ix2 r 0)).toInt = (s.val : ℤ)) :
    Host.gather gather_S512x1_S100000x1_S100000x1_1_0_n_n_0_1_11 t idx (ix2 r 0) = t (ix2 s 0) := by
  unfold Host.gather
  refine congrArg t (funext fun a => ?_)
  match a with
  | ⟨0, _⟩ =>
    refine Fin.ext ?_
    show gather_S512x1_S100000x1_S100000x1_1_0_n_n_0_1_11.start (ix2 r 0) idx 0
      + gather_S512x1_S100000x1_S100000x1_1_0_n_n_0_1_11.batchCoord (ix2 r 0) 0
      + gather_S512x1_S100000x1_S100000x1_1_0_n_n_0_1_11.offCoord (ix2 r 0) 0 = s.val
    rw [GatherDims.batchCoord_eq_zero _ _ _ (by decide), GatherDims.offCoord_eq_zero _ _ _ (by decide)]
    unfold GatherDims.start
    rw [dif_pos (by decide)]
    have e : gather_S512x1_S100000x1_S100000x1_1_0_n_n_0_1_11.siIdx (ix2 r 0) ⟨0, by decide⟩ = ix2 r 0 := funext fun b => by
      match b with
      | ⟨0, _⟩ => rfl
      | ⟨1, _⟩ => rfl
    show min (idx (gather_S512x1_S100000x1_S100000x1_1_0_n_n_0_1_11.siIdx (ix2 r 0) ⟨0, by decide⟩)).toInt.toNat 511 + 0 + 0 = s.val
    rw [e, hI]
    have := s.isLt
    omega
  | ⟨1, _⟩ => exact Subsingleton.elim (α := Fin 1) _ _

end Cert.Proof.Seg

end
-- ==== Proof.RefValue.lean ====
/-
  What the reference computes: its stages by name, each read at an index, and its result of finite rows and segment
  numbers below 512.
-/
module

public import proofs.«01_k».proof.Proof.RefRead
public import proofs.«01_k».proof.Proof.Gen.ReferenceIdeal.Run

@[expose] public section

set_option maxRecDepth 16384

noncomputable section

namespace Cert.Proof.Seg

open Cert.ReferenceIdeal Cert.ReferenceIdeal.Gen
open Idealize.ShloMosaic Idealize.ShloMosaic.TcCoe

/-! ## The stages -/

section
variable {F : FTy → Type} [FloatOps F]

/-- Segment words with negative ones raised to zero. -/
def rClip (v : IVec S100000 32) : IVec S100000 32 := maxsi (broadcastInDim S100000 ![] bcast_S_S100000 (id (constantI S_ 32 0#32))) v
/-- Segment words with negative ones wrapped by 512. -/
def rWrap (v : IVec S100000 32) : IVec S100000 32 :=
  select (cmpi .slt v (broadcastInDim S100000 ![] bcast_S_S100000 (constantI S_ 32 0#32)))
    (addi v (broadcastInDim S100000 ![] bcast_S_S100000 (constantI S_ 32 512#32))) v
/-- Segment words as a column of indices. -/
def rCol (v : IVec S100000 32) : IVec S100000x1 32 := broadcastInDim S100000x1 ![0] bcast_S100000_S100000x1_0 v
/-- The segments' row counts. -/
def rCnt (v : IVec S100000 32) : IVec S512 32 :=
  Host.scatter scatter_S512_S100000x1_S100000_n_0_0_1 IntOp.addi (broadcastInDim S512 ![] bcast_S_S512 (constantI S_ 32 0#32))
    (rCol (rWrap (rClip v))) (broadcastInDim S100000 ![] bcast_S_S100000 (constantI S_ 32 1#32))
/-- The segments' element counts. -/
def rNrm (v : IVec S100000 32) : FVec F S512x1 .f32 :=
  shapeCast S512x1 (mulf (maximumf (broadcastInDim S512 ![] bcast_S_S512 (id (constant S_ .f32 0x3F800000#32))) (sitofp .f32 (rCnt v)))
    (broadcastInDim S512 ![] bcast_S_S512 (constant S_ .f32 0x43000000#32))) shapeCasts_S512_S512x1
/-- An array's sums by segment and column. -/
def rAdd (v : IVec S100000 32) (y : FVec F S100000x128 .f32) : FVec F S512x128 .f32 :=
  Host.scatterAdd scatter_S512x128_S100000x1_S100000x128_1_0_0_1 (broadcastInDim S512x128 ![] bcast_S_S512x128 (constant S_ .f32 0x00000000#32))
    (rCol v) y
/-- Its means by segment. -/
def rAvg (v : IVec S100000 32) (y : FVec F S100000x128 .f32) : FVec F S512x1 .f32 :=
  Host.divf (broadcastInDim S512x1 ![0] bcast_S512_S512x1_0
    (Host.reduceAdd (rAdd v y) (constant S_ .f32 0x00000000#32) reducesTo_S512x128_S512_d1 h_S_)) (rNrm v)
/-- A per-segment value, taken to the segment's rows. -/
def rTake (v : IVec S100000 32) (t : FVec F S512x1 .f32) : FVec F S100000x1 .f32 :=
  Host.gather gather_S512x1_S100000x1_S100000x1_1_0_n_n_0_1_11 t (rCol (rWrap v))
/-- The rows less their segments' means. -/
def rDev (x : FVec F S100000x128 .f32) (v : IVec S100000 32) : FVec F S100000x128 .f32 :=
  subf x (broadcastInDim S100000x128 ![0, 1] bcast_S100000x1_S100000x128_0_1 (rTake v (rAvg v x)))
/-- The segments' deviations. -/
def rStd (x : FVec F S100000x128 .f32) (v : IVec S100000 32) : FVec F S512x1 .f32 :=
  Host.sqrt (addf (rAvg v (mulf (rDev x v) (rDev x v))) (broadcastInDim S512x1 ![] bcast_S_S512x1 (constant S_ .f32 0x3727C5AC#32)))
/-- The result. -/
def rOut (x : FVec F S100000x128 .f32) (v : IVec S100000 32) (w b : FVec F S1 .f32) : FVec F S100000x128 .f32 :=
  addf (mulf (Host.divf (rDev x v) (broadcastInDim S100000x128 ![0, 1] bcast_S100000x1_S100000x128_0_1 (rTake v (rStd x v))))
      (broadcastInDim S100000x128 ![0, 1] bcast_S1x1_S100000x128_0_1 (broadcastInDim S1x1 ![1] bcast_S1_S1x1_1 w)))
    (broadcastInDim S100000x128 ![0, 1] bcast_S1x1_S100000x128_0_1 (broadcastInDim S1x1 ![1] bcast_S1_S1x1_1 b))

/-- The reference's result is the stages composed. -/
theorem res_eq (m : (ℓ : Loc nD τ sig) → Buf (Elt F) ℓ) (c : Dev nD) :
    Cert.ReferenceIdeal.Value.res_main_v54 m c
      = rOut (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v54 rOut rStd rDev rTake rAvg rAdd rNrm rCnt rCol rWrap rClip
  rfl

end

/-! ## The stages at an index -/

section
variable (v : IVec S100000 32) (I : Fin 100000 → Fin 512) (hI : ∀ r, v (ix1 r) = BitVec.ofNat 32 (I r).val)
include hI

theorem word_lt_of (r : Fin 100000) : (v (ix1 r)).toNat = (I r).val ∧ (v (ix1 r)).toNat < 512 := by
  have := (I r).isLt
  rw [hI r, BitVec.toNat_ofNat, Nat.mod_eq_of_lt (by omega)]
  exact ⟨rfl, this⟩

theorem wrap_at (r : Fin 100000) : rWrap v (ix1 r) = v (ix1 r) :=
  wrap_word _ _ (word_lt_of v I hI r).2

theorem clip_at (r : Fin 100000) : rClip v (ix1 r) = v (ix1 r) :=
  maxsi_zero _ (word_lt_of v I hI r).2

theorem clipwrap_at (r : Fin 100000) : rWrap (rClip v) (ix1 r) = v (ix1 r) :=
  (wrap_at (rClip v) I (fun r => (clip_at v I hI r).trans (hI r)) r).trans (clip_at v I hI r)

omit hI in
theorem col_at (u : IVec S100000 32) (r : Fin 100000) : rCol u (ix2 r 0) = u (ix1 r) := by
  pointwise [rCol]

theorem toInt_at (r : Fin 100000) : (v (ix1 r)).toInt = ((I r).val : ℤ) := by
  rw [toInt_of_lt _ (word_lt_of v I hI r).2, (word_lt_of v I hI r).1]

theorem cnt_at (s : Fin 512) : rCnt v (ix1 s) = BitVec.ofNat 32 (rowsOf I s) := by
  unfold rCnt
  exact scatter_count _ (fun _ => rfl) _ I (fun r => by rw [col_at, clipwrap_at v I hI, toInt_at v I hI]) _ (fun _ => rfl) s

theorem nrm_at (s : Fin 512) : (rNrm (F := Ideal) v (ix2 s 0) : EReal) = (nrm I s : EReal) := by
  pointwise [rNrm]
  have e : (id (constant S_ .f32 0x3F800000#32 : FVec Ideal S_ .f32) ix0 : EReal) = ((1 : ℝ) : EReal) := word_1
  rw [cnt_at v I hI s, count_real, word_128, e, max_comm, coe_max, ← EReal.coe_mul]
  rfl

theorem avg_at (Y : Fin 100000 → Fin 128 → ℝ) (y : FVec Ideal S100000x128 .f32) (hy : ∀ r k, y (ix2 r k) = (Y r k : EReal)) (s : Fin 512) :
    (rAvg (F := Ideal) v y (ix2 s 0) : EReal) = ((segSum I Y s / nrm I s : ℝ) : EReal) := by
  have e : ∀ k : Fin 128, (rAdd (F := Ideal) v y (ix2 s k) : EReal) = ((∑ r : Fin 100000, if I r = s then Y r k else 0 : ℝ) : EReal) := fun k => by
    unfold rAdd
    refine (scatterAdd_at (broadcastInDim S512x128 ![] bcast_S_S512x128 (constant S_ .f32 0x00000000#32))
      (fun _ => Ideal.ofBits_zero_f32) (rCol v) I (fun r => by rw [col_at, toInt_at v I hI]) y s k).trans ?_
    rw [coe_sum]
    exact Finset.sum_congr rfl fun r _ => by rw [hy, coe_ite]
  pointwise [rAvg]
  rw [nrm_at v I hI s, ← div_real _ (nrm_pos I s).ne']
  refine congrArg (fun z => Ideal.div z (nrm I s : EReal)) ?_
  rw [Finset.sum_congr rfl fun k _ => e k, ← coe_sum]
  rfl

theorem take_at (t : FVec Ideal S512x1 .f32) (r : Fin 100000) : rTake (F := Ideal) v t (ix2 r 0) = t (ix2 (I r) 0) := by
  unfold rTake
  exact gather_at t _ r (I r) (by rw [col_at, wrap_at v I hI, toInt_at v I hI])

variable (X : Fin 100000 → Fin 128 → ℝ) (x : FVec Ideal S100000x128 .f32) (hx : ∀ r k, x (ix2 r k) = (X r k : EReal))
include hx

theorem dev_at (r : Fin 100000) (k : Fin 128) :
    (rDev (F := Ideal) x v (ix2 r k) : EReal) = ((X r k - mean X I (I r) : ℝ) : EReal) := by
  pointwise [rDev]
  rw [take_at v I hI, avg_at v I hI X x hx, hx, EReal.coe_sub]
  rfl

theorem std_at (s : Fin 512) :
    (rStd (F := Ideal) x v (ix2 s 0) : EReal) = Ideal.sqrt ((varDist X I s : EReal) + (eps : EReal)) := by
  pointwise [rStd]
  rw [avg_at v I hI (fun r k => (X r k - mean X I (I r)) * (X r k - mean X I (I r))) (mulf (rDev x v) (rDev x v))
    (fun r k => by
      show (rDev (F := Ideal) x v (ix2 r k) : EReal) * (rDev (F := Ideal) x v (ix2 r k) : EReal) = _
      rw [dev_at v I hI X x hx, ← EReal.coe_mul]), word_eps]
  rfl

/-- The reference's result at row `r`, column `k`. -/
theorem rOut_at (w b : FVec Ideal S1 .f32) (r : Fin 100000) (k : Fin 128) :
    (rOut (F := Ideal) x v w b (ix2 r k) : EReal)
      = Ideal.div ((X r k : ℝ) - (mean X I (I r) : ℝ) : EReal) (Ideal.sqrt ((varDist X I (I r) : EReal) + (eps : EReal)))
          * (w (ix1 0) : EReal) + (b (ix1 0) : EReal) := by
  pointwise [rOut]
  rw [take_at v I hI, std_at v I hI X x hx, dev_at v I hI X x hx, EReal.coe_sub]

end

end Cert.Proof.Seg

end
-- ==== Proof.Algebraic.lean ====
/-
  Kernel and reference compute the same function over the extended reals: the kernel's run ends with its result at the
  reference's, of finite rows and segment numbers below 512.
-/
module

public import proofs.«01_k».proof.Proof.KernelValue
public import proofs.«01_k».proof.Proof.RefValue
public import proofs.«01_k».proof.Proof.Frames

@[expose] public section

set_option maxRecDepth 16384

noncomputable section

namespace Cert.Proof.Seg

open Idealize.ShloMosaic Idealize.ShloMosaic.TcCoe Idealize.SL.Sem

section
open Cert.KernelIdeal Cert.KernelIdeal.Gen
variable {F : FTy → Type} [FloatOps F]
variable (m : (ℓ : Loc nD τ sig) → Buf (Elt F) ℓ) (d : Dev nD)

/-! ## The result's contents, as one function of the arguments -/

theorem V1_ids : gOf (V1 m) d = blkIds (F := F) (m (d, a1')) := by
  refine (StableHlo.reshape_result main_arg1 main_v0 (rfl : (.i32 : EltTy) = .i32) shapeCasts_S100000_S50x1x2000 _ _ (V0 m d)).trans ?_
  rfl

theorem tbl_eq : (tbl m d : S4096.Idx → Elt F .f32) = flatTable (F := F) (m (d, a0')) (m (d, a1')) := by
  show (op2 (F := F)).result (V2 m d) v2' = _
  refine (StableHlo.reshape_result main_v1 main_v2 (rfl : (.f32 : EltTy) = .f32) shapeCasts_S8x512_S4096 _ _ (V2 m d)).trans ?_
  have e : V2 m d v1' = table (m (d, a0')) (blkIds (F := F) (m (d, a1'))) := by
    refine (Function.update_self (β := fun b : DevRef τ sig => b.ty.Contents (Elt F)) v1' _ _).trans ?_
    rw [V1_ids]
    exact congrArg (fun z => table z _) (V1_of m d (b := a0') (by decide))
  exact congrArg (fun z : S8x512.Idx → Elt F .f32 => shapeCast S4096 z shapeCasts_S8x512_S4096) e

theorem V6_mu : muOf (V6 m) d = shapeCast S50x1x2000 (rowMu (F := F) (m (d, a0')) (m (d, a1'))) shapeCasts_S100000_S50x1x2000 := by
  refine (V6_of m d (b := v4') (by decide)).trans ?_
  refine (StableHlo.reshape_result main_v3_0 main_v4 (rfl : (.f32 : EltTy) = .f32) shapeCasts_S100000_S50x1x2000 _ _ (V4 m d)).trans ?_
  have e : V4 m d v30' = rowMu (F := F) (m (d, a0')) (m (d, a1')) := by
    refine (Function.update_of_ne (by decide) _ _).trans ?_
    refine (Function.update_self (β := fun b : DevRef τ sig => b.ty.Contents (Elt F)) v30' _ _).trans ?_
    unfold gMu rowMu
    rw [tbl_eq]
    rfl
  exact congrArg (fun z : S100000.Idx → Elt F .f32 => shapeCast S50x1x2000 z shapeCasts_S100000_S50x1x2000) e

theorem V6_rs : rsOf (V6 m) d = shapeCast S50x1x2000 (rowRs (F := F) (m (d, a0')) (m (d, a1'))) shapeCasts_S100000_S50x1x2000 := by
  refine (StableHlo.reshape_result main_v3_1 main_v5 (rfl : (.f32 : EltTy) = .f32) shapeCasts_S100000_S50x1x2000 _ _ (V5 m d)).trans ?_
  have e : V5 m d v31' = rowRs (F := F) (m (d, a0')) (m (d, a1')) := by
    refine (V5_of m d (by decide)).trans ?_
    refine (Function.update_self (β := fun b : DevRef τ sig => b.ty.Contents (Elt F)) v31' _ _).trans ?_
    unfold gRs rowRs
    rw [tbl_eq]
    rfl
  exact congrArg (fun z : S100000.Idx → Elt F .f32 => shapeCast S50x1x2000 z shapeCasts_S100000_S50x1x2000) e

/-- What the result's array holds at the end. -/
theorem V7_out : V7 m d v6' = kOut (F := F) (m (d, a0')) (m (d, a1')) (m (d, a2')) (m (d, a3')) := by
  refine (Function.update_self (β := fun b : DevRef τ sig => b.ty.Contents (Elt F)) v6' _ _).trans ?_
  rw [V6_mu, V6_rs]
  have ex : xOf (V6 m) d = m (d, a0') := V6_arg m d (by decide) (by decide) (by decide) (by decide) (by decide) (by decide) (by decide)
  have ew : wOf (V6 m) d = m (d, a2') := V6_arg m d (by decide) (by decide) (by decide) (by decide) (by decide) (by decide) (by decide)
  have eb : bOf (V6 m) d = m (d, a3') := V6_arg m d (by decide) (by decide) (by decide) (by decide) (by decide) (by decide) (by decide)
  rw [ex, ew, eb]
  rfl

end

/-! ## The equation -/

/-- An extended real whose absolute value is below infinity is a real number. -/
theorem real_of_abs (x : EReal) (h : FloatOps.cmpf (F := Ideal) (φ := .f32) .olt (FloatOps.hostAbsf (F := Ideal) (φ := .f32) x) (FloatOps.ofBits .f32 0x7F800000#32) = 1#1) :
    x = ((x.toReal : ℝ) : EReal) := by
  have hi : Ideal.ofBits .f32 0x7F800000#32 = (⊤ : EReal) := by simp [Ideal.ofBits, Ideal.ieee]
  have h' : BitVec.ofBool (decide (max x (-x) < Ideal.ofBits .f32 0x7F800000#32)) = 1#1 := h
  rw [hi] at h'
  have h2 : max x (-x) < ⊤ := by
    by_contra c
    rw [decide_eq_false c] at h'
    exact absurd h' (by decide)
  have a : x ≠ ⊤ := fun e => by rw [e] at h2; simp at h2
  have b : x ≠ ⊥ := fun e => by rw [e] at h2; simp at h2
  exact (EReal.coe_toReal a b).symm

/-- On finite rows and segment numbers below 512 the two results are the same array. -/
theorem outs_eq (x : Cert.KernelIdeal.S100000x128.Idx → EReal) (id : Cert.KernelIdeal.S100000.Idx → BitVec 32)
    (w b : Cert.KernelIdeal.S1.Idx → EReal) (hx : ∀ j, x j = (((x j).toReal : ℝ) : EReal)) (hid : ∀ j, (id j).toNat < 512) :
    rOut (F := Ideal) x id w b = kOut (F := Ideal) x id w b := by
  have hX : ∀ (r : Fin 100000) (k : Fin 128), x (ix2 r k) = (((fun r k => (x (ix2 r k)).toReal : Fin 100000 → Fin 128 → ℝ) r k : ℝ) : EReal) :=
    fun r k => hx _
  have hI : ∀ r : Fin 100000, id (ix1 r) = BitVec.ofNat 32 ((fun r => ⟨(id (ix1 r)).toNat, hid _⟩ : Fin 100000 → Fin 512) r).val :=
    fun r => by simp
  funext j
  obtain ⟨r, k, rfl⟩ : ∃ (r : Fin 100000) (k : Fin 128), j = ix2 r k := ⟨j 0, j 1, eq_ix2 j⟩
  refine (rOut_at id _ hI _ x hX w b r k).trans ?_
  refine Eq.trans ?_ (kernel_at x id _ _ hX hI w b r k).symm
  exact (elem_eq _ _ r k (w (ix1 0)) (b (ix1 0))).symm

/-! ## The claim -/

/-- What the reference's run leaves, where its arguments are the kernel's. -/
theorem ref_result (x : Cert.ReferenceIdeal.S100000x128.Idx → EReal) (id : Cert.ReferenceIdeal.S100000.Idx → BitVec 32)
    (w b : Cert.ReferenceIdeal.S1.Idx → EReal) (hpre : letI := Cert.Pre_finite.Gen.facts; Cert.Pre_finite.fn (F := Ideal) x id w b = fun _ => 1#1) :
    rOut (F := Ideal) x id w b = kOut (F := Ideal) x id w b :=
  haveI := Cert.Pre_finite.Gen.facts
  outs_eq x id w b (fun j => real_of_abs _ (abs_lt_of_finite (F := Ideal) x id w b hpre j)) fun j => ids_lt_of_finite (F := Ideal) x id w b hpre j

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => V7 (F := Ideal) m c v6', ?_, ?_⟩
  · exact (θ_run Cert.KernelIdeal.defs _ _).mono
      (fun _ h c => ⟨(h.1 c).2.2.2.2, (h.1 c).1, (h.1 c).2.1, (h.1 c).2.2.1, (h.1 c).2.2.2.1⟩)
      (run_main (F := Ideal) m g fun d j => ids_lt_of_finite _ _ _ _ (hpre d) j)
  · refine (θ_run Cert.ReferenceIdeal.defs _ _).mono (fun _ h c => ⟨(h c).1.trans ?_, (h c).2⟩) (Cert.ReferenceIdeal.Value.run m' g')
    rw [res_eq]
    refine Eq.trans ?_ (V7_out (F := Ideal) m c).symm
    rw [(hargs c).1, (hargs c).2.1, (hargs c).2.2.1, (hargs c).2.2.2]
    exact ref_result _ _ _ _ (hpre c)

end Cert.Proof.Seg

end
-- ==== Proof.lean ====
/-
  The claim: the frames of the kernel, of the ideal kernel and of the reference, and that kernel and reference compute
  the same function over the extended reals.
-/
module

public import proofs.«01_k».proof.Defs
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts, Cert.Pre_finite.Gen.facts,
    Seg.frame_kernel, Seg.frame_kernelIdeal, Seg.frame_kernelIdeal_finite, Seg.frame_reference,
    fun m g _ => Seg.frame_reference m g trivial, trivial, Seg.algebraic⟩

end Cert.Proof

end
